-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_off_boundary_pre_finite [hKernelIdeal : Cert.KernelIdeal.Facts] [hReferenceIdeal : Cert.ReferenceIdeal.Facts] [hPre_finite : Cert.Pre_finite.Facts] [hOn_off_boundary : Cert.On_off_boundary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![96, 9, 224, 224]⟩ : Shape).Idx, (Cert.On_off_boundary.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v25) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![96, 9, 224, 224]⟩ : Shape).Idx, (Cert.On_off_boundary.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v121) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts) (hOn_off_boundary : Cert.On_off_boundary.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_off_boundary_pre_finite (hKernelIdeal := hKernelIdeal) (hReferenceIdeal := hReferenceIdeal) (hPre_finite := hPre_finite) (hOn_off_boundary := hOn_off_boundary)
-- ==== On_off_boundary.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S96x1x224x224 : Shape := ⟨4, ![96, 1, 224, 224]⟩
abbrev S96x9x224x224 : Shape := ⟨4, ![96, 9, 224, 224]⟩

class Facts : Prop where
  slices_S32x3x224x224_S32x3x1x224_0_0_0_0 : S32x3x224x224.Slices ![0, 0, 0, 0] S32x3x1x224
  slices_S32x3x224x224_S32x3x1x224_0_0_1_0 : S32x3x224x224.Slices ![0, 0, 1, 0] S32x3x1x224
  concatenates_S32x3x1x224_S32x3x224x224_S32x3x225x224_d2 : Shape.Concatenates [S32x3x1x224, S32x3x224x224] S32x3x225x224 2
  slices_S32x3x225x224_S32x3x1x224_0_0_224_0 : S32x3x225x224.Slices ![0, 0, 224, 0] S32x3x1x224
  slices_S32x3x225x224_S32x3x1x224_0_0_223_0 : S32x3x225x224.Slices ![0, 0, 223, 0] S32x3x1x224
  concatenates_S32x3x225x224_S32x3x1x224_S32x3x226x224_d2 : Shape.Concatenates [S32x3x225x224, S32x3x1x224] S32x3x226x224 2
  slices_S32x3x226x224_S32x3x226x1_0_0_0_0 : S32x3x226x224.Slices ![0, 0, 0, 0] S32x3x226x1
  slices_S32x3x226x224_S32x3x226x1_0_0_0_1 : S32x3x226x224.Slices ![0, 0, 0, 1] S32x3x226x1
  concatenates_S32x3x226x1_S32x3x226x224_S32x3x226x225_d3 : Shape.Concatenates [S32x3x226x1, S32x3x226x224] S32x3x226x225 3
  slices_S32x3x226x225_S32x3x226x1_0_0_0_224 : S32x3x226x225.Slices ![0, 0, 0, 224] S32x3x226x1
  slices_S32x3x226x225_S32x3x226x1_0_0_0_223 : S32x3x226x225.Slices ![0, 0, 0, 223] S32x3x226x1
  concatenates_S32x3x226x225_S32x3x226x1_S32x3x226x226_d3 : Shape.Concatenates [S32x3x226x225, S32x3x226x1] S32x3x226x226 3
  slices_S32x3x226x226_S32x3x224x224_0_0_0_0 : S32x3x226x226.Slices ![0, 0, 0, 0] S32x3x224x224
  bcast_S_S32x3x224x224 : S_.BroadcastsInDim S32x3x224x224 (![] : Fin 0 → Fin S32x3x224x224.rank)
  slices_S32x3x226x226_S32x3x224x224_0_0_0_1 : S32x3x226x226.Slices ![0, 0, 0, 1] S32x3x224x224
  slices_S32x3x226x226_S32x3x224x224_0_0_0_2 : S32x3x226x226.Slices ![0, 0, 0, 2] S32x3x224x224
  slices_S32x3x226x226_S32x3x224x224_0_0_1_0 : S32x3x226x226.Slices ![0, 0, 1, 0] S32x3x224x224
  slices_S32x3x226x226_S32x3x224x224_0_0_1_1 : S32x3x226x226.Slices ![0, 0, 1, 1] S32x3x224x224
  slices_S32x3x226x226_S32x3x224x224_0_0_1_2 : S32x3x226x226.Slices ![0, 0, 1, 2] S32x3x224x224
  slices_S32x3x226x226_S32x3x224x224_0_0_2_0 : S32x3x226x226.Slices ![0, 0, 2, 0] S32x3x224x224
  slices_S32x3x226x226_S32x3x224x224_0_0_2_1 : S32x3x226x226.Slices ![0, 0, 2, 1] S32x3x224x224
  slices_S32x3x226x226_S32x3x224x224_0_0_2_2 : S32x3x226x226.Slices ![0, 0, 2, 2] S32x3x224x224
  shapeCasts_S32x3x224x224_S96x1x224x224 : S32x3x224x224.ShapeCasts S96x1x224x224
  bcast_S96x1x224x224_S96x9x224x224_0_1_2_3 : S96x1x224x224.BroadcastsInDim S96x9x224x224 (![0, 1, 2, 3] : Fin 4 → Fin S96x9x224x224.rank)

variable [Facts]

def fn_flip {F : FTy → Type} [FloatOps F] (arg0 : FVec F S32x3x1x224 .f32) : FVec F S32x3x1x224 .f32 :=
  let v0 : FVec F S32x3x1x224 .f32 := Host.reverse [2] arg0
  v0

def fn_flip_0 {F : FTy → Type} [FloatOps F] (arg0 : FVec F S32x3x226x1 .f32) : FVec F S32x3x226x1 .f32 :=
  let v0 : FVec F S32x3x226x1 .f32 := Host.reverse [3] arg0
  v0

def fn_pad {F : FTy → Type} [FloatOps F] (arg0 : FVec F S32x3x224x224 .f32) (arg1 : IVec S_ 32) : FVec F S32x3x226x226 .f32 :=
  let v0 : FVec F S32x3x1x224 .f32 := (extractStridedSlice S32x3x1x224 ![0, 0, 0, 0] · slices_S32x3x224x224_S32x3x1x224_0_0_0_0) arg0
  let v1 : FVec F S32x3x1x224 .f32 := (extractStridedSlice S32x3x1x224 ![0, 0, 1, 0] · slices_S32x3x224x224_S32x3x1x224_0_0_1_0) arg0
  let v2 : FVec F S32x3x1x224 .f32 := fn_flip (F := F) v1
  let v3 : FVec F S32x3x225x224 .f32 := (fun a b => concatenate S32x3x225x224 2 [⟨S32x3x1x224, a⟩, ⟨S32x3x224x224, b⟩] concatenates_S32x3x1x224_S32x3x224x224_S32x3x225x224_d2) v2 arg0
  let v4 : FVec F S32x3x1x224 .f32 := (extractStridedSlice S32x3x1x224 ![0, 0, 224, 0] · slices_S32x3x225x224_S32x3x1x224_0_0_224_0) v3
  let v5 : FVec F S32x3x1x224 .f32 := (extractStridedSlice S32x3x1x224 ![0, 0, 223, 0] · slices_S32x3x225x224_S32x3x1x224_0_0_223_0) v3
  let v6 : FVec F S32x3x1x224 .f32 := fn_flip (F := F) v5
  let v7 : FVec F S32x3x226x224 .f32 := (fun a b => concatenate S32x3x226x224 2 [⟨S32x3x225x224, a⟩, ⟨S32x3x1x224, b⟩] concatenates_S32x3x225x224_S32x3x1x224_S32x3x226x224_d2) v3 v6
  let v8 : FVec F S32x3x226x1 .f32 := (extractStridedSlice S32x3x226x1 ![0, 0, 0, 0] · slices_S32x3x226x224_S32x3x226x1_0_0_0_0) v7
  let v9 : FVec F S32x3x226x1 .f32 := (extractStridedSlice S32x3x226x1 ![0, 0, 0, 1] · slices_S32x3x226x224_S32x3x226x1_0_0_0_1) v7
  let v10 : FVec F S32x3x226x1 .f32 := fn_flip_0 (F := F) v9
  let v11 : FVec F S32x3x226x225 .f32 := (fun a b => concatenate S32x3x226x225 3 [⟨S32x3x226x1, a⟩, ⟨S32x3x226x224, b⟩] concatenates_S32x3x226x1_S32x3x226x224_S32x3x226x225_d3) v10 v7
  let v12 : FVec F S32x3x226x1 .f32 := (extractStridedSlice S32x3x226x1 ![0, 0, 0, 224] · slices_S32x3x226x225_S32x3x226x1_0_0_0_224) v11
  let v13 : FVec F S32x3x226x1 .f32 := (extractStridedSlice S32x3x226x1 ![0, 0, 0, 223] · slices_S32x3x226x225_S32x3x226x1_0_0_0_223) v11
  let v14 : FVec F S32x3x226x1 .f32 := fn_flip_0 (F := F) v13
  let v15 : FVec F S32x3x226x226 .f32 := (fun a b => concatenate S32x3x226x226 3 [⟨S32x3x226x225, a⟩, ⟨S32x3x226x1, b⟩] concatenates_S32x3x226x225_S32x3x226x1_S32x3x226x226_d3) v11 v14
  v15

def fn_part9 {F : FTy → Type} [FloatOps F] (main_v37 : FVec F S32x3x224x224 .f32) (main_v160 : IVec S32x3x224x224 1) (main_v169 : FVec F S32x3x224x224 .f32) : IVec S96x9x224x224 1 :=
  let main_cst_44 : FVec F S_ .f32 := constant S_ .f32 0x34800000#32
  let main_v170 : FVec F S32x3x224x224 .f32 := broadcastInDim S32x3x224x224 ![] bcast_S_S32x3x224x224 main_cst_44
  let main_v171 : IVec S32x3x224x224 1 := cmpf .ogt main_v169 main_v170
  let main_v172 : IVec S32x3x224x224 1 := andi main_v160 main_v171
  let main_cst_45 : FVec F S_ .f32 := constant S_ .f32 0x00000000#32
  let main_v173 : FVec F S32x3x224x224 .f32 := broadcastInDim S32x3x224x224 ![] bcast_S_S32x3x224x224 main_cst_45
  let main_v174 : IVec S32x3x224x224 1 := cmpf .oeq main_v37 main_v173
  let main_v175 : IVec S32x3x224x224 1 := ori main_v172 main_v174
  let main_v176 : IVec S96x1x224x224 1 := shapeCast S96x1x224x224 main_v175 shapeCasts_S32x3x224x224_S96x1x224x224
  let main_v177 : IVec S96x9x224x224 1 := broadcastInDim S96x9x224x224 ![0, 1, 2, 3] bcast_S96x1x224x224_S96x9x224x224_0_1_2_3 main_v176
  main_v177

def fn_part8 {F : FTy → Type} [FloatOps F] (main_v37 : FVec F S32x3x224x224 .f32) (main_v74 : FVec F S32x3x224x224 .f32) (main_v75 : FVec F S_ .f32) (main_v148 : IVec S32x3x224x224 1) (main_v149 : FVec F S_ .f32) : IVec S96x9x224x224 1 :=
  let main_cst_40 : FVec F S_ .f32 := constant S_ .f32 0x41100000#32
  let main_v150 : FVec F S_ .f32 := Host.divf main_v149 main_cst_40
  let main_v151 : FVec F S32x3x224x224 .f32 := Host.divf main_v74 main_v37
  let main_v152 : FVec F S_ .f32 := Host.cos main_v150
  let main_v153 : FVec F S_ .f32 := Host.sin main_v150
  let main_v154 : FVec F S_ .f32 := Host.divf main_v152 main_v153
  let main_v155 : FVec F S32x3x224x224 .f32 := broadcastInDim S32x3x224x224 ![] bcast_S_S32x3x224x224 main_v154
  let main_v156 : FVec F S32x3x224x224 .f32 := subf main_v151 main_v155
  let main_v157 : FVec F S32x3x224x224 .f32 := Host.absf main_v156
  let main_cst_41 : FVec F S_ .f32 := constant S_ .f32 0x34800000#32
  let main_v158 : FVec F S32x3x224x224 .f32 := broadcastInDim S32x3x224x224 ![] bcast_S_S32x3x224x224 main_cst_41
  let main_v159 : IVec S32x3x224x224 1 := cmpf .ogt main_v157 main_v158
  let main_v160 : IVec S32x3x224x224 1 := andi main_v148 main_v159
  let main_cst_42 : FVec F S_ .f32 := constant S_ .f32 0x41000000#32
  let main_v161 : FVec F S_ .f32 := mulf main_v75 main_cst_42
  let main_cst_43 : FVec F S_ .f32 := constant S_ .f32 0x41100000#32
  let main_v162 : FVec F S_ .f32 := Host.divf main_v161 main_cst_43
  let main_v163 : FVec F S32x3x224x224 .f32 := Host.divf main_v74 main_v37
  let main_v164 : FVec F S_ .f32 := Host.cos main_v162
  let main_v165 : FVec F S_ .f32 := Host.sin main_v162
  let main_v166 : FVec F S_ .f32 := Host.divf main_v164 main_v165
  let main_v167 : FVec F S32x3x224x224 .f32 := broadcastInDim S32x3x224x224 ![] bcast_S_S32x3x224x224 main_v166
  let main_v168 : FVec F S32x3x224x224 .f32 := subf main_v163 main_v167
  let main_v169 : FVec F S32x3x224x224 .f32 := Host.absf main_v168
  fn_part9 (F := F) main_v37 main_v160 main_v169

def fn_part7 {F : FTy → Type} [FloatOps F] (main_v37 : FVec F S32x3x224x224 .f32) (main_v74 : FVec F S32x3x224x224 .f32) (main_v75 : FVec F S_ .f32) (main_v124 : IVec S32x3x224x224 1) (main_v127 : FVec F S32x3x224x224 .f32) (main_v130 : FVec F S_ .f32) : IVec S96x9x224x224 1 :=
  let main_v131 : FVec F S32x3x224x224 .f32 := broadcastInDim S32x3x224x224 ![] bcast_S_S32x3x224x224 main_v130
  let main_v132 : FVec F S32x3x224x224 .f32 := subf main_v127 main_v131
  let main_v133 : FVec F S32x3x224x224 .f32 := Host.absf main_v132
  let main_cst_35 : FVec F S_ .f32 := constant S_ .f32 0x34800000#32
  let main_v134 : FVec F S32x3x224x224 .f32 := broadcastInDim S32x3x224x224 ![] bcast_S_S32x3x224x224 main_cst_35
  let main_v135 : IVec S32x3x224x224 1 := cmpf .ogt main_v133 main_v134
  let main_v136 : IVec S32x3x224x224 1 := andi main_v124 main_v135
  let main_cst_36 : FVec F S_ .f32 := constant S_ .f32 0x40C00000#32
  let main_v137 : FVec F S_ .f32 := mulf main_v75 main_cst_36
  let main_cst_37 : FVec F S_ .f32 := constant S_ .f32 0x41100000#32
  let main_v138 : FVec F S_ .f32 := Host.divf main_v137 main_cst_37
  let main_v139 : FVec F S32x3x224x224 .f32 := Host.divf main_v74 main_v37
  let main_v140 : FVec F S_ .f32 := Host.cos main_v138
  let main_v141 : FVec F S_ .f32 := Host.sin main_v138
  let main_v142 : FVec F S_ .f32 := Host.divf main_v140 main_v141
  let main_v143 : FVec F S32x3x224x224 .f32 := broadcastInDim S32x3x224x224 ![] bcast_S_S32x3x224x224 main_v142
  let main_v144 : FVec F S32x3x224x224 .f32 := subf main_v139 main_v143
  let main_v145 : FVec F S32x3x224x224 .f32 := Host.absf main_v144
  let main_cst_38 : FVec F S_ .f32 := constant S_ .f32 0x34800000#32
  let main_v146 : FVec F S32x3x224x224 .f32 := broadcastInDim S32x3x224x224 ![] bcast_S_S32x3x224x224 main_cst_38
  let main_v147 : IVec S32x3x224x224 1 := cmpf .ogt main_v145 main_v146
  let main_v148 : IVec S32x3x224x224 1 := andi main_v136 main_v147
  let main_cst_39 : FVec F S_ .f32 := constant S_ .f32 0x40E00000#32
  let main_v149 : FVec F S_ .f32 := mulf main_v75 main_cst_39
  fn_part8 (F := F) main_v37 main_v74 main_v75 main_v148 main_v149

def fn_part6 {F : FTy → Type} [FloatOps F] (main_v37 : FVec F S32x3x224x224 .f32) (main_v74 : FVec F S32x3x224x224 .f32) (main_v75 : FVec F S_ .f32) (main_v100 : IVec S32x3x224x224 1) (main_v111 : IVec S32x3x224x224 1) : IVec S96x9x224x224 1 :=
  let main_v112 : IVec S32x3x224x224 1 := andi main_v100 main_v111
  let main_cst_30 : FVec F S_ .f32 := constant S_ .f32 0x40800000#32
  let main_v113 : FVec F S_ .f32 := mulf main_v75 main_cst_30
  let main_cst_31 : FVec F S_ .f32 := constant S_ .f32 0x41100000#32
  let main_v114 : FVec F S_ .f32 := Host.divf main_v113 main_cst_31
  let main_v115 : FVec F S32x3x224x224 .f32 := Host.divf main_v74 main_v37
  let main_v116 : FVec F S_ .f32 := Host.cos main_v114
  let main_v117 : FVec F S_ .f32 := Host.sin main_v114
  let main_v118 : FVec F S_ .f32 := Host.divf main_v116 main_v117
  let main_v119 : FVec F S32x3x224x224 .f32 := broadcastInDim S32x3x224x224 ![] bcast_S_S32x3x224x224 main_v118
  let main_v120 : FVec F S32x3x224x224 .f32 := subf main_v115 main_v119
  let main_v121 : FVec F S32x3x224x224 .f32 := Host.absf main_v120
  let main_cst_32 : FVec F S_ .f32 := constant S_ .f32 0x34800000#32
  let main_v122 : FVec F S32x3x224x224 .f32 := broadcastInDim S32x3x224x224 ![] bcast_S_S32x3x224x224 main_cst_32
  let main_v123 : IVec S32x3x224x224 1 := cmpf .ogt main_v121 main_v122
  let main_v124 : IVec S32x3x224x224 1 := andi main_v112 main_v123
  let main_cst_33 : FVec F S_ .f32 := constant S_ .f32 0x40A00000#32
  let main_v125 : FVec F S_ .f32 := mulf main_v75 main_cst_33
  let main_cst_34 : FVec F S_ .f32 := constant S_ .f32 0x41100000#32
  let main_v126 : FVec F S_ .f32 := Host.divf main_v125 main_cst_34
  let main_v127 : FVec F S32x3x224x224 .f32 := Host.divf main_v74 main_v37
  let main_v128 : FVec F S_ .f32 := Host.cos main_v126
  let main_v129 : FVec F S_ .f32 := Host.sin main_v126
  let main_v130 : FVec F S_ .f32 := Host.divf main_v128 main_v129
  fn_part7 (F := F) main_v37 main_v74 main_v75 main_v124 main_v127 main_v130

def fn_part5 {F : FTy → Type} [FloatOps F] (main_v37 : FVec F S32x3x224x224 .f32) (main_v74 : FVec F S32x3x224x224 .f32) (main_v75 : FVec F S_ .f32) (main_v88 : IVec S32x3x224x224 1) (main_v90 : FVec F S_ .f32) (main_v91 : FVec F S32x3x224x224 .f32) : IVec S96x9x224x224 1 :=
  let main_v92 : FVec F S_ .f32 := Host.cos main_v90
  let main_v93 : FVec F S_ .f32 := Host.sin main_v90
  let main_v94 : FVec F S_ .f32 := Host.divf main_v92 main_v93
  let main_v95 : FVec F S32x3x224x224 .f32 := broadcastInDim S32x3x224x224 ![] bcast_S_S32x3x224x224 main_v94
  let main_v96 : FVec F S32x3x224x224 .f32 := subf main_v91 main_v95
  let main_v97 : FVec F S32x3x224x224 .f32 := Host.absf main_v96
  let main_cst_26 : FVec F S_ .f32 := constant S_ .f32 0x34800000#32
  let main_v98 : FVec F S32x3x224x224 .f32 := broadcastInDim S32x3x224x224 ![] bcast_S_S32x3x224x224 main_cst_26
  let main_v99 : IVec S32x3x224x224 1 := cmpf .ogt main_v97 main_v98
  let main_v100 : IVec S32x3x224x224 1 := andi main_v88 main_v99
  let main_cst_27 : FVec F S_ .f32 := constant S_ .f32 0x40400000#32
  let main_v101 : FVec F S_ .f32 := mulf main_v75 main_cst_27
  let main_cst_28 : FVec F S_ .f32 := constant S_ .f32 0x41100000#32
  let main_v102 : FVec F S_ .f32 := Host.divf main_v101 main_cst_28
  let main_v103 : FVec F S32x3x224x224 .f32 := Host.divf main_v74 main_v37
  let main_v104 : FVec F S_ .f32 := Host.cos main_v102
  let main_v105 : FVec F S_ .f32 := Host.sin main_v102
  let main_v106 : FVec F S_ .f32 := Host.divf main_v104 main_v105
  let main_v107 : FVec F S32x3x224x224 .f32 := broadcastInDim S32x3x224x224 ![] bcast_S_S32x3x224x224 main_v106
  let main_v108 : FVec F S32x3x224x224 .f32 := subf main_v103 main_v107
  let main_v109 : FVec F S32x3x224x224 .f32 := Host.absf main_v108
  let main_cst_29 : FVec F S_ .f32 := constant S_ .f32 0x34800000#32
  let main_v110 : FVec F S32x3x224x224 .f32 := broadcastInDim S32x3x224x224 ![] bcast_S_S32x3x224x224 main_cst_29
  let main_v111 : IVec S32x3x224x224 1 := cmpf .ogt main_v109 main_v110
  fn_part6 (F := F) main_v37 main_v74 main_v75 main_v100 main_v111

def fn_part4 {F : FTy → Type} [FloatOps F] (main_v37 : FVec F S32x3x224x224 .f32) (main_v74 : FVec F S32x3x224x224 .f32) : IVec S96x9x224x224 1 :=
  let main_cst_19 : FVec F S_ .f32 := constant S_ .f32 0xBF800000#32
  let main_v75 : FVec F S_ .f32 := Host.acos main_cst_19
  let main_c_20 : IVec S_ 1 := constantI S_ 1 1#1
  let main_v76 : IVec S32x3x224x224 1 := broadcastInDim S32x3x224x224 ![] bcast_S_S32x3x224x224 main_c_20
  let main_cst_21 : FVec F S_ .f32 := constant S_ .f32 0x3F800000#32
  let main_v77 : FVec F S_ .f32 := mulf main_v75 main_cst_21
  let main_cst_22 : FVec F S_ .f32 := constant S_ .f32 0x41100000#32
  let main_v78 : FVec F S_ .f32 := Host.divf main_v77 main_cst_22
  let main_v79 : FVec F S32x3x224x224 .f32 := Host.divf main_v74 main_v37
  let main_v80 : FVec F S_ .f32 := Host.cos main_v78
  let main_v81 : FVec F S_ .f32 := Host.sin main_v78
  let main_v82 : FVec F S_ .f32 := Host.divf main_v80 main_v81
  let main_v83 : FVec F S32x3x224x224 .f32 := broadcastInDim S32x3x224x224 ![] bcast_S_S32x3x224x224 main_v82
  let main_v84 : FVec F S32x3x224x224 .f32 := subf main_v79 main_v83
  let main_v85 : FVec F S32x3x224x224 .f32 := Host.absf main_v84
  let main_cst_23 : FVec F S_ .f32 := constant S_ .f32 0x34800000#32
  let main_v86 : FVec F S32x3x224x224 .f32 := broadcastInDim S32x3x224x224 ![] bcast_S_S32x3x224x224 main_cst_23
  let main_v87 : IVec S32x3x224x224 1 := cmpf .ogt main_v85 main_v86
  let main_v88 : IVec S32x3x224x224 1 := andi main_v76 main_v87
  let main_cst_24 : FVec F S_ .f32 := constant S_ .f32 0x40000000#32
  let main_v89 : FVec F S_ .f32 := mulf main_v75 main_cst_24
  let main_cst_25 : FVec F S_ .f32 := constant S_ .f32 0x41100000#32
  let main_v90 : FVec F S_ .f32 := Host.divf main_v89 main_cst_25
  let main_v91 : FVec F S32x3x224x224 .f32 := Host.divf main_v74 main_v37
  fn_part5 (F := F) main_v37 main_v74 main_v75 main_v88 main_v90 main_v91

def fn_part3 {F : FTy → Type} [FloatOps F] (main_v0 : FVec F S32x3x226x226 .f32) (main_v37 : FVec F S32x3x224x224 .f32) (main_v54 : FVec F S32x3x224x224 .f32) (main_v55 : FVec F S32x3x224x224 .f32) : IVec S96x9x224x224 1 :=
  let main_cst_14 : FVec F S_ .f32 := constant S_ .f32 0x00000000#32
  let main_v56 : FVec F S32x3x224x224 .f32 := broadcastInDim S32x3x224x224 ![] bcast_S_S32x3x224x224 main_cst_14
  let main_v57 : FVec F S32x3x224x224 .f32 := mulf main_v56 main_v55
  let main_v58 : FVec F S32x3x224x224 .f32 := addf main_v54 main_v57
  let main_v59 : FVec F S32x3x224x224 .f32 := (extractStridedSlice S32x3x224x224 ![0, 0, 1, 2] · slices_S32x3x226x226_S32x3x224x224_0_0_1_2) main_v0
  let main_cst_15 : FVec F S_ .f32 := constant S_ .f32 0x00000000#32
  let main_v60 : FVec F S32x3x224x224 .f32 := broadcastInDim S32x3x224x224 ![] bcast_S_S32x3x224x224 main_cst_15
  let main_v61 : FVec F S32x3x224x224 .f32 := mulf main_v60 main_v59
  let main_v62 : FVec F S32x3x224x224 .f32 := addf main_v58 main_v61
  let main_v63 : FVec F S32x3x224x224 .f32 := (extractStridedSlice S32x3x224x224 ![0, 0, 2, 0] · slices_S32x3x226x226_S32x3x224x224_0_0_2_0) main_v0
  let main_cst_16 : FVec F S_ .f32 := constant S_ .f32 0xBF800000#32
  let main_v64 : FVec F S32x3x224x224 .f32 := broadcastInDim S32x3x224x224 ![] bcast_S_S32x3x224x224 main_cst_16
  let main_v65 : FVec F S32x3x224x224 .f32 := mulf main_v64 main_v63
  let main_v66 : FVec F S32x3x224x224 .f32 := addf main_v62 main_v65
  let main_v67 : FVec F S32x3x224x224 .f32 := (extractStridedSlice S32x3x224x224 ![0, 0, 2, 1] · slices_S32x3x226x226_S32x3x224x224_0_0_2_1) main_v0
  let main_cst_17 : FVec F S_ .f32 := constant S_ .f32 0xC0000000#32
  let main_v68 : FVec F S32x3x224x224 .f32 := broadcastInDim S32x3x224x224 ![] bcast_S_S32x3x224x224 main_cst_17
  let main_v69 : FVec F S32x3x224x224 .f32 := mulf main_v68 main_v67
  let main_v70 : FVec F S32x3x224x224 .f32 := addf main_v66 main_v69
  let main_v71 : FVec F S32x3x224x224 .f32 := (extractStridedSlice S32x3x224x224 ![0, 0, 2, 2] · slices_S32x3x226x226_S32x3x224x224_0_0_2_2) main_v0
  let main_cst_18 : FVec F S_ .f32 := constant S_ .f32 0xBF800000#32
  let main_v72 : FVec F S32x3x224x224 .f32 := broadcastInDim S32x3x224x224 ![] bcast_S_S32x3x224x224 main_cst_18
  let main_v73 : FVec F S32x3x224x224 .f32 := mulf main_v72 main_v71
  let main_v74 : FVec F S32x3x224x224 .f32 := addf main_v70 main_v73
  fn_part4 (F := F) main_v37 main_v74

def fn_part2 {F : FTy → Type} [FloatOps F] (main_v0 : FVec F S32x3x226x226 .f32) (main_v33 : FVec F S32x3x224x224 .f32) (main_v36 : FVec F S32x3x224x224 .f32) : IVec S96x9x224x224 1 :=
  let main_v37 : FVec F S32x3x224x224 .f32 := addf main_v33 main_v36
  let main_v38 : FVec F S32x3x224x224 .f32 := (extractStridedSlice S32x3x224x224 ![0, 0, 0, 0] · slices_S32x3x226x226_S32x3x224x224_0_0_0_0) main_v0
  let main_cst_9 : FVec F S_ .f32 := constant S_ .f32 0x3F800000#32
  let main_v39 : FVec F S32x3x224x224 .f32 := broadcastInDim S32x3x224x224 ![] bcast_S_S32x3x224x224 main_cst_9
  let main_v40 : FVec F S32x3x224x224 .f32 := mulf main_v39 main_v38
  let main_cst_10 : FVec F S_ .f32 := constant S_ .f32 0x00000000#32
  let main_v41 : FVec F S32x3x224x224 .f32 := broadcastInDim S32x3x224x224 ![] bcast_S_S32x3x224x224 main_cst_10
  let main_v42 : FVec F S32x3x224x224 .f32 := addf main_v41 main_v40
  let main_v43 : FVec F S32x3x224x224 .f32 := (extractStridedSlice S32x3x224x224 ![0, 0, 0, 1] · slices_S32x3x226x226_S32x3x224x224_0_0_0_1) main_v0
  let main_cst_11 : FVec F S_ .f32 := constant S_ .f32 0x40000000#32
  let main_v44 : FVec F S32x3x224x224 .f32 := broadcastInDim S32x3x224x224 ![] bcast_S_S32x3x224x224 main_cst_11
  let main_v45 : FVec F S32x3x224x224 .f32 := mulf main_v44 main_v43
  let main_v46 : FVec F S32x3x224x224 .f32 := addf main_v42 main_v45
  let main_v47 : FVec F S32x3x224x224 .f32 := (extractStridedSlice S32x3x224x224 ![0, 0, 0, 2] · slices_S32x3x226x226_S32x3x224x224_0_0_0_2) main_v0
  let main_cst_12 : FVec F S_ .f32 := constant S_ .f32 0x3F800000#32
  let main_v48 : FVec F S32x3x224x224 .f32 := broadcastInDim S32x3x224x224 ![] bcast_S_S32x3x224x224 main_cst_12
  let main_v49 : FVec F S32x3x224x224 .f32 := mulf main_v48 main_v47
  let main_v50 : FVec F S32x3x224x224 .f32 := addf main_v46 main_v49
  let main_v51 : FVec F S32x3x224x224 .f32 := (extractStridedSlice S32x3x224x224 ![0, 0, 1, 0] · slices_S32x3x226x226_S32x3x224x224_0_0_1_0) main_v0
  let main_cst_13 : FVec F S_ .f32 := constant S_ .f32 0x00000000#32
  let main_v52 : FVec F S32x3x224x224 .f32 := broadcastInDim S32x3x224x224 ![] bcast_S_S32x3x224x224 main_cst_13
  let main_v53 : FVec F S32x3x224x224 .f32 := mulf main_v52 main_v51
  let main_v54 : FVec F S32x3x224x224 .f32 := addf main_v50 main_v53
  let main_v55 : FVec F S32x3x224x224 .f32 := (extractStridedSlice S32x3x224x224 ![0, 0, 1, 1] · slices_S32x3x226x226_S32x3x224x224_0_0_1_1) main_v0
  fn_part3 (F := F) main_v0 main_v37 main_v54 main_v55

def fn_part1 {F : FTy → Type} [FloatOps F] (main_v0 : FVec F S32x3x226x226 .f32) (main_v17 : FVec F S32x3x224x224 .f32) : IVec S96x9x224x224 1 :=
  let main_v18 : FVec F S32x3x224x224 .f32 := (extractStridedSlice S32x3x224x224 ![0, 0, 1, 1] · slices_S32x3x226x226_S32x3x224x224_0_0_1_1) main_v0
  let main_cst_4 : FVec F S_ .f32 := constant S_ .f32 0x00000000#32
  let main_v19 : FVec F S32x3x224x224 .f32 := broadcastInDim S32x3x224x224 ![] bcast_S_S32x3x224x224 main_cst_4
  let main_v20 : FVec F S32x3x224x224 .f32 := mulf main_v19 main_v18
  let main_v21 : FVec F S32x3x224x224 .f32 := addf main_v17 main_v20
  let main_v22 : FVec F S32x3x224x224 .f32 := (extractStridedSlice S32x3x224x224 ![0, 0, 1, 2] · slices_S32x3x226x226_S32x3x224x224_0_0_1_2) main_v0
  let main_cst_5 : FVec F S_ .f32 := constant S_ .f32 0xC0000000#32
  let main_v23 : FVec F S32x3x224x224 .f32 := broadcastInDim S32x3x224x224 ![] bcast_S_S32x3x224x224 main_cst_5
  let main_v24 : FVec F S32x3x224x224 .f32 := mulf main_v23 main_v22
  let main_v25 : FVec F S32x3x224x224 .f32 := addf main_v21 main_v24
  let main_v26 : FVec F S32x3x224x224 .f32 := (extractStridedSlice S32x3x224x224 ![0, 0, 2, 0] · slices_S32x3x226x226_S32x3x224x224_0_0_2_0) main_v0
  let main_cst_6 : FVec F S_ .f32 := constant S_ .f32 0x3F800000#32
  let main_v27 : FVec F S32x3x224x224 .f32 := broadcastInDim S32x3x224x224 ![] bcast_S_S32x3x224x224 main_cst_6
  let main_v28 : FVec F S32x3x224x224 .f32 := mulf main_v27 main_v26
  let main_v29 : FVec F S32x3x224x224 .f32 := addf main_v25 main_v28
  let main_v30 : FVec F S32x3x224x224 .f32 := (extractStridedSlice S32x3x224x224 ![0, 0, 2, 1] · slices_S32x3x226x226_S32x3x224x224_0_0_2_1) main_v0
  let main_cst_7 : FVec F S_ .f32 := constant S_ .f32 0x00000000#32
  let main_v31 : FVec F S32x3x224x224 .f32 := broadcastInDim S32x3x224x224 ![] bcast_S_S32x3x224x224 main_cst_7
  let main_v32 : FVec F S32x3x224x224 .f32 := mulf main_v31 main_v30
  let main_v33 : FVec F S32x3x224x224 .f32 := addf main_v29 main_v32
  let main_v34 : FVec F S32x3x224x224 .f32 := (extractStridedSlice S32x3x224x224 ![0, 0, 2, 2] · slices_S32x3x226x226_S32x3x224x224_0_0_2_2) main_v0
  let main_cst_8 : FVec F S_ .f32 := constant S_ .f32 0xBF800000#32
  let main_v35 : FVec F S32x3x224x224 .f32 := broadcastInDim S32x3x224x224 ![] bcast_S_S32x3x224x224 main_cst_8
  let main_v36 : FVec F S32x3x224x224 .f32 := mulf main_v35 main_v34
  fn_part2 (F := F) main_v0 main_v33 main_v36

def fn {F : FTy → Type} [FloatOps F] (main_arg0 : FVec F S32x3x224x224 .f32) : IVec S96x9x224x224 1 :=
  let main_c : IVec S_ 32 := constantI S_ 32 0#32
  let main_v0 : FVec F S32x3x226x226 .f32 := fn_pad (F := F) main_arg0 main_c
  let main_v1 : FVec F S32x3x224x224 .f32 := (extractStridedSlice S32x3x224x224 ![0, 0, 0, 0] · slices_S32x3x226x226_S32x3x224x224_0_0_0_0) main_v0
  let main_cst : FVec F S_ .f32 := constant S_ .f32 0x3F800000#32
  let main_v2 : FVec F S32x3x224x224 .f32 := broadcastInDim S32x3x224x224 ![] bcast_S_S32x3x224x224 main_cst
  let main_v3 : FVec F S32x3x224x224 .f32 := mulf main_v2 main_v1
  let main_cst_0 : FVec F S_ .f32 := constant S_ .f32 0x00000000#32
  let main_v4 : FVec F S32x3x224x224 .f32 := broadcastInDim S32x3x224x224 ![] bcast_S_S32x3x224x224 main_cst_0
  let main_v5 : FVec F S32x3x224x224 .f32 := addf main_v4 main_v3
  let main_v6 : FVec F S32x3x224x224 .f32 := (extractStridedSlice S32x3x224x224 ![0, 0, 0, 1] · slices_S32x3x226x226_S32x3x224x224_0_0_0_1) main_v0
  let main_cst_1 : FVec F S_ .f32 := constant S_ .f32 0x00000000#32
  let main_v7 : FVec F S32x3x224x224 .f32 := broadcastInDim S32x3x224x224 ![] bcast_S_S32x3x224x224 main_cst_1
  let main_v8 : FVec F S32x3x224x224 .f32 := mulf main_v7 main_v6
  let main_v9 : FVec F S32x3x224x224 .f32 := addf main_v5 main_v8
  let main_v10 : FVec F S32x3x224x224 .f32 := (extractStridedSlice S32x3x224x224 ![0, 0, 0, 2] · slices_S32x3x226x226_S32x3x224x224_0_0_0_2) main_v0
  let main_cst_2 : FVec F S_ .f32 := constant S_ .f32 0xBF800000#32
  let main_v11 : FVec F S32x3x224x224 .f32 := broadcastInDim S32x3x224x224 ![] bcast_S_S32x3x224x224 main_cst_2
  let main_v12 : FVec F S32x3x224x224 .f32 := mulf main_v11 main_v10
  let main_v13 : FVec F S32x3x224x224 .f32 := addf main_v9 main_v12
  let main_v14 : FVec F S32x3x224x224 .f32 := (extractStridedSlice S32x3x224x224 ![0, 0, 1, 0] · slices_S32x3x226x226_S32x3x224x224_0_0_1_0) main_v0
  let main_cst_3 : FVec F S_ .f32 := constant S_ .f32 0x40000000#32
  let main_v15 : FVec F S32x3x224x224 .f32 := broadcastInDim S32x3x224x224 ![] bcast_S_S32x3x224x224 main_cst_3
  let main_v16 : FVec F S32x3x224x224 .f32 := mulf main_v15 main_v14
  let main_v17 : FVec F S32x3x224x224 .f32 := addf main_v13 main_v16
  fn_part1 (F := F) main_v0 main_v17
-- ==== Pre_finite.lean ====
abbrev S32x3x224x224 : Shape := ⟨4, ![32, 3, 224, 224]⟩
abbrev S_ : Shape := ⟨0, ![]⟩

class Facts : Prop where
  bcast_S_S32x3x224x224 : S_.BroadcastsInDim S32x3x224x224 (![] : Fin 0 → Fin S32x3x224x224.rank)

variable [Facts]

def fn {F : FTy → Type} [FloatOps F] (main_arg0 : FVec F S32x3x224x224 .f32) : IVec S32x3x224x224 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  main_v2
-- ==== Kernel.lean ====
abbrev S32x3x224x224 : Shape := ⟨4, ![32, 3, 224, 224]⟩
abbrev S96x224x224 : Shape := ⟨3, ![96, 224, 224]⟩
abbrev S_ : Shape := ⟨0, ![]⟩
abbrev S96x1x224 : Shape := ⟨3, ![96, 1, 224]⟩
abbrev S96x225x224 : Shape := ⟨3, ![96, 225, 224]⟩
abbrev S96x226x224 : Shape := ⟨3, ![96, 226, 224]⟩
abbrev S96x226x1 : Shape := ⟨3, ![96, 226, 1]⟩
abbrev S96x226x225 : Shape := ⟨3, ![96, 226, 225]⟩
abbrev S96x226x226 : Shape := ⟨3, ![96, 226, 226]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S96x9x224x224 : Shape := ⟨4, ![96, 9, 224, 224]⟩
abbrev S1x226x226 : Shape := ⟨3, ![1, 226, 226]⟩
abbrev S1x9x224x224 : Shape := ⟨4, ![1, 9, 224, 224]⟩
abbrev S226x226 : Shape := ⟨2, ![226, 226]⟩
abbrev S226x224 : Shape := ⟨2, ![226, 224]⟩
abbrev S1x1x224x224 : Shape := ⟨4, ![1, 1, 224, 224]⟩

abbrev nBuf : Space → Nat
  | .hbm => 48
  | .vmem => 5
  | .smem => 0
  | _ => 0

abbrev bufTy : (tb : Table) → Fin (tcTables nBuf tb) → BufTy
  | .hbm, ⟨0, _⟩ => ⟨S32x3x224x224, .f32⟩
  | .hbm, ⟨1, _⟩ => ⟨S96x224x224, .f32⟩
  | .hbm, ⟨2, _⟩ => ⟨S96x224x224, .bf16⟩
  | .hbm, ⟨3, _⟩ => ⟨S_, .i32⟩
  | .hbm, ⟨4, _⟩ => ⟨S96x1x224, .bf16⟩
  | .hbm, ⟨5, _⟩ => ⟨S96x1x224, .bf16⟩
  | .hbm, ⟨6, _⟩ => ⟨S96x1x224, .bf16⟩
  | .hbm, ⟨7, _⟩ => ⟨S96x225x224, .bf16⟩
  | .hbm, ⟨8, _⟩ => ⟨S96x1x224, .bf16⟩
  | .hbm, ⟨9, _⟩ => ⟨S96x1x224, .bf16⟩
  | .hbm, ⟨10, _⟩ => ⟨S96x1x224, .bf16⟩
  | .hbm, ⟨11, _⟩ => ⟨S96x226x224, .bf16⟩
  | .hbm, ⟨12, _⟩ => ⟨S96x226x1, .bf16⟩
  | .hbm, ⟨13, _⟩ => ⟨S96x226x1, .bf16⟩
  | .hbm, ⟨14, _⟩ => ⟨S96x226x1, .bf16⟩
  | .hbm, ⟨15, _⟩ => ⟨S96x226x225, .bf16⟩
  | .hbm, ⟨16, _⟩ => ⟨S96x226x1, .bf16⟩
  | .hbm, ⟨17, _⟩ => ⟨S96x226x1, .bf16⟩
  | .hbm, ⟨18, _⟩ => ⟨S96x226x1, .bf16⟩
  | .hbm, ⟨19, _⟩ => ⟨S96x226x226, .bf16⟩
  | .hbm, ⟨20, _⟩ => ⟨S16, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S16x1, .f32⟩
  | .hbm, ⟨36, _⟩ => ⟨S1x16, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S_, .f32⟩
  | .hbm, ⟨41, _⟩ => ⟨S_, .f32⟩
  | .hbm, ⟨42, _⟩ => ⟨S16x16, .f32⟩
  | .hbm, ⟨43, _⟩ => ⟨S16x16, .f32⟩
  | .hbm, ⟨44, _⟩ => ⟨S1x16x1x16, .f32⟩
  | .hbm, ⟨45, _⟩ => ⟨S14x16x14x16, .f32⟩
  | .hbm, ⟨46, _⟩ => ⟨S224x224, .f32⟩
  | .hbm, ⟨47, _⟩ => ⟨S96x9x224x224, .f32⟩
  | .local _ .vmem, ⟨0, _⟩ => ⟨S1x226x226, .bf16⟩
  | .local _ .vmem, ⟨1, _⟩ => ⟨S1x226x226, .bf16⟩
  | .local _ .vmem, ⟨2, _⟩ => ⟨S224x224, .f32⟩
  | .local _ .vmem, ⟨3, _⟩ => ⟨S1x9x224x224, .f32⟩
  | .local _ .vmem, ⟨4, _⟩ => ⟨S1x9x224x224, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x226x226 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x9x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x3x224x224 : Shape := ⟨4, ![32, 3, 224, 224]⟩
abbrev S_ : Shape := ⟨0, ![]⟩
abbrev S32x3x1x224 : Shape := ⟨4, ![32, 3, 1, 224]⟩
abbrev S32x3x225x224 : Shape := ⟨4, ![32, 3, 225, 224]⟩
abbrev S32x3x226x224 : Shape := ⟨4, ![32, 3, 226, 224]⟩
abbrev S32x3x226x1 : Shape := ⟨4, ![32, 3, 226, 1]⟩
abbrev S32x3x226x225 : Shape := ⟨4, ![32, 3, 226, 225]⟩
abbrev S32x3x226x226 : Shape := ⟨4, ![32, 3, 226, 226]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S14x16x14x16 : Shape := ⟨4, ![14, 16, 14, 16]⟩
abbrev S224x224 : Shape := ⟨2, ![224, 224]⟩
abbrev S1x1x224x224 : Shape := ⟨4, ![1, 1, 224, 224]⟩
abbrev S9 : Shape := ⟨1, ![9]⟩
abbrev S1x1x9x1x1 : Shape := ⟨5, ![1, 1, 9, 1, 1]⟩
abbrev S32x3x1x224x224 : Shape := ⟨5, ![32, 3, 1, 224, 224]⟩
abbrev S32x3x9x224x224 : Shape := ⟨5, ![32, 3, 9, 224, 224]⟩
abbrev S96x9x224x224 : Shape := ⟨4, ![96, 9, 224, 224]⟩

abbrev nBuf : Space → Nat
  | .hbm => 187
  | .vmem => 0
  | .smem => 0
  | _ => 0

abbrev hbmTy0_0 (i : Nat) : BufTy := match i % 128 with
  | 0 => ⟨S32x3x224x224, .f32⟩
  | 1 => ⟨S_, .i32⟩
  | 2 => ⟨S32x3x1x224, .f32⟩
  | 3 => ⟨S32x3x1x224, .f32⟩
  | 4 => ⟨S32x3x1x224, .f32⟩
  | 5 => ⟨S32x3x225x224, .f32⟩
  | 6 => ⟨S32x3x1x224, .f32⟩
  | 7 => ⟨S32x3x1x224, .f32⟩
  | 8 => ⟨S32x3x1x224, .f32⟩
  | 9 => ⟨S32x3x226x224, .f32⟩
  | 10 => ⟨S32x3x226x1, .f32⟩
  | 11 => ⟨S32x3x226x1, .f32⟩
  | 12 => ⟨S32x3x226x1, .f32⟩
  | 13 => ⟨S32x3x226x225, .f32⟩
  | 14 => ⟨S32x3x226x1, .f32⟩
  | 15 => ⟨S32x3x226x1, .f32⟩
  | 16 => ⟨S32x3x226x1, .f32⟩
  | 17 => ⟨S32x3x226x226, .f32⟩
  | 18 => ⟨S32x3x224x224, .f32⟩
  | 19 => ⟨S_, .f32⟩
  | 20 => ⟨S32x3x224x224, .f32⟩
  | 21 => ⟨S32x3x224x224, .f32⟩
  | 22 => ⟨S_, .f32⟩
  | 23 => ⟨S32x3x224x224, .f32⟩
  | 24 => ⟨S32x3x224x224, .f32⟩
  | 25 => ⟨S32x3x224x224, .f32⟩
  | 26 => ⟨S_, .f32⟩
  | 27 => ⟨S32x3x224x224, .f32⟩
  | 28 => ⟨S32x3x224x224, .f32⟩
  | 29 => ⟨S32x3x224x224, .f32⟩
  | 30 => ⟨S32x3x224x224, .f32⟩
  | 31 => ⟨S_, .f32⟩
  | 32 => ⟨S32x3x224x224, .f32⟩
  | 33 => ⟨S32x3x224x224, .f32⟩
  | 34 => ⟨S32x3x224x224, .f32⟩
  | 35 => ⟨S32x3x224x224, .f32⟩
  | 36 => ⟨S_, .f32⟩
  | 37 => ⟨S32x3x224x224, .f32⟩
  | 38 => ⟨S32x3x224x224, .f32⟩
  | 39 => ⟨S32x3x224x224, .f32⟩
  | 40 => ⟨S32x3x224x224, .f32⟩
  | 41 => ⟨S_, .f32⟩
  | 42 => ⟨S32x3x224x224, .f32⟩
  | 43 => ⟨S32x3x224x224, .f32⟩
  | 44 => ⟨S32x3x224x224, .f32⟩
  | 45 => ⟨S32x3x224x224, .f32⟩
  | 46 => ⟨S_, .f32⟩
  | 47 => ⟨S32x3x224x224, .f32⟩
  | 48 => ⟨S32x3x224x224, .f32⟩
  | 49 => ⟨S32x3x224x224, .f32⟩
  | 50 => ⟨S32x3x224x224, .f32⟩
  | 51 => ⟨S_, .f32⟩
  | 52 => ⟨S32x3x224x224, .f32⟩
  | 53 => ⟨S32x3x224x224, .f32⟩
  | 54 => ⟨S32x3x224x224, .f32⟩
  | 55 => ⟨S32x3x224x224, .f32⟩
  | 56 => ⟨S_, .f32⟩
  | 57 => ⟨S32x3x224x224, .f32⟩
  | 58 => ⟨S32x3x224x224, .f32⟩
  | 59 => ⟨S32x3x224x224, .f32⟩
  | 60 => ⟨S32x3x224x224, .f32⟩
  | 61 => ⟨S_, .f32⟩
  | 62 => ⟨S32x3x224x224, .f32⟩
  | 63 => ⟨S32x3x224x224, .f32⟩
  | 64 => ⟨S32x3x224x224, .f32⟩
  | 65 => ⟨S32x3x224x224, .f32⟩
  | 66 => ⟨S_, .f32⟩
  | 67 => ⟨S32x3x224x224, .f32⟩
  | 68 => ⟨S32x3x224x224, .f32⟩
  | 69 => ⟨S_, .f32⟩
  | 70 => ⟨S32x3x224x224, .f32⟩
  | 71 => ⟨S32x3x224x224, .f32⟩
  | 72 => ⟨S32x3x224x224, .f32⟩
  | 73 => ⟨S_, .f32⟩
  | 74 => ⟨S32x3x224x224, .f32⟩
  | 75 => ⟨S32x3x224x224, .f32⟩
  | 76 => ⟨S32x3x224x224, .f32⟩
  | 77 => ⟨S32x3x224x224, .f32⟩
  | 78 => ⟨S_, .f32⟩
  | 79 => ⟨S32x3x224x224, .f32⟩
  | 80 => ⟨S32x3x224x224, .f32⟩
  | 81 => ⟨S32x3x224x224, .f32⟩
  | 82 => ⟨S32x3x224x224, .f32⟩
  | 83 => ⟨S_, .f32⟩
  | 84 => ⟨S32x3x224x224, .f32⟩
  | 85 => ⟨S32x3x224x224, .f32⟩
  | 86 => ⟨S32x3x224x224, .f32⟩
  | 87 => ⟨S32x3x224x224, .f32⟩
  | 88 => ⟨S_, .f32⟩
  | 89 => ⟨S32x3x224x224, .f32⟩
  | 90 => ⟨S32x3x224x224, .f32⟩
  | 91 => ⟨S32x3x224x224, .f32⟩
  | 92 => ⟨S32x3x224x224, .f32⟩
  | 93 => ⟨S_, .f32⟩
  | 94 => ⟨S32x3x224x224, .f32⟩
  | 95 => ⟨S32x3x224x224, .f32⟩
  | 96 => ⟨S32x3x224x224, .f32⟩
  | 97 => ⟨S32x3x224x224, .f32⟩
  | 98 => ⟨S_, .f32⟩
  | 99 => ⟨S32x3x224x224, .f32⟩
  | 100 => ⟨S32x3x224x224, .f32⟩
  | 101 => ⟨S32x3x224x224, .f32⟩
  | 102 => ⟨S32x3x224x224, .f32⟩
  | 103 => ⟨S_, .f32⟩
  | 104 => ⟨S32x3x224x224, .f32⟩
  | 105 => ⟨S32x3x224x224, .f32⟩
  | 106 => ⟨S32x3x224x224, .f32⟩
  | 107 => ⟨S32x3x224x224, .f32⟩
  | 108 => ⟨S_, .f32⟩
  | 109 => ⟨S32x3x224x224, .f32⟩
  | 110 => ⟨S32x3x224x224, .f32⟩
  | 111 => ⟨S32x3x224x224, .f32⟩
  | 112 => ⟨S_, .f32⟩
  | 113 => ⟨S_, .f32⟩
  | 114 => ⟨S32x3x224x224, .f32⟩
  | 115 => ⟨S32x3x224x224, .f32⟩
  | 116 => ⟨S32x3x224x224, .f32⟩
  | 117 => ⟨S32x3x224x224, .f32⟩
  | 118 => ⟨S32x3x224x224, .f32⟩
  | 119 => ⟨S32x3x224x224, .f32⟩
  | 120 => ⟨S32x3x224x224, .f32⟩
  | 121 => ⟨S_, .f32⟩
  | 122 => ⟨S32x3x224x224, .f32⟩
  | 123 => ⟨S32x3x224x224, .f32⟩
  | 124 => ⟨S16, .f32⟩
  | 125 => ⟨S_, .f32⟩
  | 126 => ⟨S_, .f32⟩
  | 127 => ⟨S_, .f32⟩
  | _ => ⟨S32x3x224x224, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S16x1, .f32⟩
  | 12 => ⟨S1x16, .f32⟩
  | 13 => ⟨S16x16, .f32⟩
  | 14 => ⟨S16x16, .f32⟩
  | 15 => ⟨S16x16, .f32⟩
  | 16 => ⟨S_, .f32⟩
  | 17 => ⟨S_, .f32⟩
  | 18 => ⟨S16x16, .f32⟩
  | 19 => ⟨S16x16, .f32⟩
  | 20 => ⟨S1x16x1x16, .f32⟩
  | 21 => ⟨S14x16x14x16, .f32⟩
  | 22 => ⟨S224x224, .f32⟩
  | 23 => ⟨S1x1x224x224, .f32⟩
  | 24 => ⟨S32x3x224x224, .f32⟩
  | 25 => ⟨S32x3x224x224, .f32⟩
  | 26 => ⟨S32x3x224x224, .f32⟩
  | 27 => ⟨S_, .i32⟩
  | 28 => ⟨S_, .f32⟩
  | 29 => ⟨S32x3x224x224, .f32⟩
  | 30 => ⟨S32x3x224x224, .f32⟩
  | 31 => ⟨S_, .f32⟩
  | 32 => ⟨S32x3x224x224, .f32⟩
  | 33 => ⟨S32x3x224x224, .i1⟩
  | 34 => ⟨S_, .f32⟩
  | 35 => ⟨S32x3x224x224, .f32⟩
  | 36 => ⟨S32x3x224x224, .i1⟩
  | 37 => ⟨S_, .f32⟩
  | 38 => ⟨S_, .i1⟩
  | 39 => ⟨S32x3x224x224, .i1⟩
  | 40 => ⟨S32x3x224x224, .i1⟩
  | 41 => ⟨S32x3x224x224, .i1⟩
  | 42 => ⟨S32x3x224x224, .f32⟩
  | 43 => ⟨S32x3x224x224, .f32⟩
  | 44 => ⟨S32x3x224x224, .f32⟩
  | 45 => ⟨S32x3x224x224, .i32⟩
  | 46 => ⟨S9, .i32⟩
  | 47 => ⟨S1x1x9x1x1, .i32⟩
  | 48 => ⟨S32x3x1x224x224, .i32⟩
  | 49 => ⟨S32x3x9x224x224, .i32⟩
  | 50 => ⟨S32x3x9x224x224, .i32⟩
  | 51 => ⟨S32x3x9x224x224, .i1⟩
  | 52 => ⟨S32x3x1x224x224, .f32⟩
  | 53 => ⟨S_, .f32⟩
  | 54 => ⟨S_, .f32⟩
  | 55 => ⟨S32x3x9x224x224, .f32⟩
  | 56 => ⟨S32x3x9x224x224, .f32⟩
  | 57 => ⟨S32x3x9x224x224, .f32⟩
  | 58 => ⟨S96x9x224x224, .f32⟩
  | _ => ⟨S32x3x224x224, .f32⟩

abbrev hbmTy (i : Nat) : BufTy := match i / 128 with
  | 0 => hbmTy0_0 i
  | 1 => hbmTy0_1 i
  | _ => ⟨S32x3x224x224, .f32⟩

abbrev bufTy : (tb : Table) → Fin (tcTables nBuf tb) → BufTy
  | .hbm, ⟨i, _⟩ => hbmTy i
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_13 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_17 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_20 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_21 : Ref sig .tc := ⟨.hbm, 125, rfl⟩
abbrev main_v86 : Ref sig .tc := ⟨.hbm, 126, rfl⟩
abbrev main_cst_22 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_23 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_24 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_25 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_26 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_call1_cst : Ref sig .tc := ⟨.hbm, 159, rfl⟩
abbrev main_call1_v3 : Ref sig .tc := ⟨.hbm, 160, rfl⟩
abbrev main_call1_v4 : Ref sig .tc := ⟨.hbm, 161, rfl⟩
abbrev main_call1_cst_0 : Ref sig .tc := ⟨.hbm, 162, rfl⟩
abbrev main_call1_v5 : Ref sig .tc := ⟨.hbm, 163, rfl⟩
abbrev main_call1_v6 : Ref sig .tc := ⟨.hbm, 164, rfl⟩
abbrev main_call1_cst_1 : Ref sig .tc := ⟨.hbm, 165, rfl⟩
abbrev main_call1_v7 : Ref sig .tc := ⟨.hbm, 166, rfl⟩
abbrev main_call1_v8 : Ref sig .tc := ⟨.hbm, 167, rfl⟩
abbrev main_call1_v9 : Ref sig .tc := ⟨.hbm, 168, rfl⟩
abbrev main_call1_v10 : Ref sig .tc := ⟨.hbm, 169, rfl⟩
abbrev main_call1_v11 : Ref sig .tc := ⟨.hbm, 170, rfl⟩
abbrev main_call1_v12 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_27 : Ref sig .tc := ⟨.hbm, 181, rfl⟩
abbrev main_call2_v0 : Ref sig .tc := ⟨.hbm, 182, rfl⟩
abbrev main_call2_v1 : Ref sig .tc := ⟨.hbm, 183, rfl⟩
abbrev main_call2_v2 : Ref sig .tc := ⟨.hbm, 184, rfl⟩
abbrev main_v120 : Ref sig .tc := ⟨.hbm, 185, rfl⟩
abbrev main_v121 : Ref sig .tc := ⟨.hbm, 186, rfl⟩

abbrev nD : Nat := 1
abbrev τ : Topo := Topo.v7x

variable {F : FTy → Type} [FloatOps F]
-- ==== Proof.KerBin.lean ====
/- What the kernel stores in its output block, read at an index. -/
module

public import proofs.«01_k».proof.Proof.Gen.KernelIdeal.Value
public import Idealize.ShloMosaic.Lib.Pointwise
public import Idealize.ShloMosaic.Lib.IdealHost
public import Idealize.ShloMosaic.Lib.Pipeline.ValueKit

@[expose] public section

set_option maxRecDepth 16384

noncomputable section

namespace Cert.Proof.KerBin

open Cert.KernelIdeal Cert.KernelIdeal.Gen Idealize.ShloMosaic Idealize.ShloMosaic.TcCoe

/-- The literal that the kernel compares with, of threshold `m`. -/
def thr : ℕ → EReal
  | 1 => Ideal.ofBits .f32 0x402FD6AC#32
  | 2 => Ideal.ofBits .f32 0x3F988B62#32
  | 3 => Ideal.ofBits .f32 0x3F13CD3A#32
  | 4 => Ideal.ofBits .f32 0x3E348F0F#32
  | 5 => Ideal.ofBits .f32 0xBE348F0F#32
  | 6 => Ideal.ofBits .f32 0xBF13CD3A#32
  | 7 => Ideal.ofBits .f32 0xBF988B62#32
  | _ => Ideal.ofBits .f32 0xC02FD6AC#32

/-- The norm where the cotangent `u` is at most threshold `m`, zero elsewhere. -/
def below (n u : EReal) (m : ℕ) : EReal := if u ≤ thr m then n else 0

/-- What the kernel stores in bin `k` of a pixel of norm `n` and cotangent `u`. -/
def bin (n u : EReal) (k : ℕ) : EReal :=
  if k = 0 then n - below n u 1 else if k = 8 then below n u 8 else below n u k - below n u (k + 1)

/-- The norm, as the second part of the kernel's body receives it. -/
theorem pay28_eq (x0 : FVec Ideal S1x226x226 .bf16) (x1 : FVec Ideal S224x224 .f32) :
    k0_pay28 (F := Ideal) x0 x1 = k0_pay12 x0 x1 := by
  unfold k0_pay28
  frame_out

/-- The cotangent, as the second part of the kernel's body receives it. -/
theorem pay29_eq (x0 : FVec Ideal S1x226x226 .bf16) (x1 : FVec Ideal S224x224 .f32) :
    k0_pay29 (F := Ideal) x0 x1 = k0_pay13 x0 := by
  unfold k0_pay29
  frame_out

/-- The zero that the selections fall back on. -/
theorem pay30_eq (x0 : FVec Ideal S1x226x226 .bf16) (x1 : FVec Ideal S224x224 .f32) (j) :
    k0_pay30 (F := Ideal) x0 x1 j = (0 : EReal) := by
  unfold k0_pay30 k0_pay14
  pointwise

/-- The second threshold, spread over the plane. -/
theorem pay31_apply (x0 : FVec Ideal S1x226x226 .bf16) (x1 : FVec Ideal S224x224 .f32) (j) :
    k0_pay31 (F := Ideal) x0 x1 j = Ideal.ofBits .f32 0x3F988B62#32 := by
  unfold k0_pay31
  pointwise [k0_pay17]

/-- The selection by the first threshold, at a pixel. -/
theorem pay15_apply (x0 : FVec Ideal S1x226x226 .bf16) (x1 : FVec Ideal S224x224 .f32) (j) :
    k0_pay15 (F := Ideal) x0 x1 j = below (k0_pay12 (F := Ideal) x0 x1 j) (k0_pay13 (F := Ideal) x0 j) 1 := by
  pointwise [k0_pay15, below, thr, k0_pay14]

/-- The output block at an index: `bin` of the pixel's norm and cotangent. -/
theorem out_apply (x0 : FVec Ideal S1x226x226 .bf16) (x1 : FVec Ideal S224x224 .f32) (y : S1x9x224x224.Idx) :
    out0_2 (F := Ideal) x0 x1 y = bin (k0_pay12 (F := Ideal) x0 x1 (ix2 (y 2) (y 3))) (k0_pay13 (F := Ideal) x0 (ix2 (y 2) (y 3))) (y 1).val := by
  frame_out
  canon_tiles x h
  all_goals
    have hx : x = ix4 0 0 (y 2) (y 3) := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    have h1' : (x 1).val = 0 := by omega
    rw [h1, h1', hx]
    clear h0 x0_lt h1 x1_lt h2 x2_lt h3 x3_lt hx h1'
    pointwise [k0_pay6, k0_pay5, k0_pay4, k0_pay3, k0_pay2, k0_pay1, k0_pay27, k0_pay26, k0_pay25, k0_pay24, k0_pay23, k0_pay22, k0_pay21, k0_pay20, k0_pay19, k0_pay18, k0_pay16, pay30_eq, pay28_eq, pay29_eq, pay31_apply, pay15_apply, bin, below, thr]

end Cert.Proof.KerBin

end
-- ==== Proof.KerOut.lean ====
/- The kernel's result array after the run. -/
module

public import proofs.«01_k».proof.Proof.KerBin

@[expose] public section

set_option maxRecDepth 16384

noncomputable section

namespace Cert.Proof.KerOut

open Cert.KernelIdeal Cert.KernelIdeal.Gen Idealize.ShloMosaic Idealize.ShloMosaic.TcCoe

variable (m : (ℓ : Loc nD τ sig) → Buf (Elt Ideal) ℓ)

/-- Padded plane `n`, as the block that grid point `n` reads. -/
def plane (c : Dev nD) (n : Fin 96) : FVec Ideal S1x226x226 .bf16 := fun z => (V m c main_v2 : FVec Ideal S96x226x226 .bf16) (ix3 n (z 1) (z 2))

/-- The window that every grid point reads. -/
def table (c : Dev nD) : FVec Ideal S224x224 .f32 := V m c main_v24

/-- What the result array is shown to hold. -/
def hog (c : Dev nD) : FVec Ideal S96x9x224x224 .f32 := fun y =>
  KerBin.bin (k0_pay12 (F := Ideal) (plane m c (y 0)) (table m c) (ix2 (y 2) (y 3)))
    (k0_pay13 (F := Ideal) (plane m c (y 0)) (ix2 (y 2) (y 3))) (y 1).val

/-- The block indices of the windows. -/
theorem idx : ∀ t : Fin cfg0.N, win0_0.index t = ![(t.val : ℕ), 0, 0] ∧ win0_1.index t = ![0, 0] ∧ win0_2.index t = ![(t.val : ℕ), 0, 0, 0] :=
  (by decide +kernel : ∀ t : Fin grid0.N, _)

/-- Grid point `t` reads padded plane `t`. -/
theorem iblk0 (c : Dev nD) (t : Fin cfg0.N) : iblk m c 0 t = plane m c ⟨t.val, t.isLt⟩ := by
  blk_ext! [iblk, plane, (idx t).1]

/-- Every grid point reads the whole window. -/
theorem iblk1 (c : Dev nD) (t : Fin cfg0.N) : iblk m c 1 t = table m c := by
  blk_ext! [iblk, table, (idx t).2.1]

/-- After the last grid point the result array holds `hog`: the blocks cover it, each written once. -/
theorem final (c : Dev nD) : (dats m 0 c).arrAt 2 cfg0.N = hog m c := by
  refine (dats m 0 c).arrAt_eq_of_covers 2 _ (by decide +kernel) fun t hf y => ?_
  blk_simp
  rw [after0_2, iblk0, iblk1, KerBin.out_apply]
  have e : (win0_2.blk t).view.emb y = ix4 (⟨t.val, t.isLt⟩ : Fin 96) (y 1) (y 2) (y 3) := by
    blk_ext! [(idx t).2.2]
  rw [e]
  rfl

end Cert.Proof.KerOut

end
-- ==== Proof.Edge.lean ====
/- The row or column of an image that its reflected padding repeats. -/
module

public import Idealize.ShloMosaic.PureOps.Ideal

@[expose] public section

namespace Cert.Proof

/-- The row or column of the image that stands at `i` of the padded image: the border is mirrored, the edge itself not
    repeated. -/
def rho (i : Fin 226) : Fin 224 :=
  if i.val = 0 then 1 else if h : i.val < 225 then ⟨i.val - 1, by omega⟩ else 222

/-- In front there is the second row. -/
theorem rho_zero (i : Fin 226) (h : i.val = 0) : rho i = 1 := if_pos h

/-- Inside there are the image's rows. -/
theorem rho_mid (i : Fin 226) (h0 : i.val ≠ 0) (h : i.val < 225) : rho i = ⟨i.val - 1, by omega⟩ :=
  (if_neg h0).trans (dif_pos h)

/-- Behind there is the second last row. -/
theorem rho_last (i : Fin 226) (h : ¬ i.val < 225) : rho i = 222 :=
  (if_neg (by omega)).trans (dif_neg h)

end Cert.Proof
-- ==== Proof.KerPad.lean ====
/- The padded images that the kernel's call reads. -/
module

public import proofs.«01_k».proof.Proof.Gen.KernelIdeal.Value
public import proofs.«01_k».proof.Proof.Edge
public import Idealize.ShloMosaic.Lib.Pointwise
public import Idealize.ShloMosaic.Lib.IdealHost
public import Idealize.ShloMosaic.Lib.StableHlo.ReadAt

@[expose] public section

set_option maxRecDepth 16384

noncomputable section

namespace Cert.Proof.KerPad

open Cert.KernelIdeal Cert.KernelIdeal.Gen Idealize.ShloMosaic Idealize.ShloMosaic.TcCoe

/-- The images with their second row in front, turned over. -/
def top (y : FVec Ideal S96x224x224 .bf16) : FVec Ideal S96x225x224 .bf16 :=
  concatenate S96x225x224 1 [⟨S96x1x224, Host.reverse [1] (extractStridedSlice S96x1x224 ![0, 1, 0] y slices_S96x224x224_S96x1x224_0_1_0)⟩, ⟨S96x224x224, y⟩] concatenates_S96x1x224_S96x224x224_S96x225x224_d1

/-- The images with a row in front and a row behind. -/
def rows (y : FVec Ideal S96x224x224 .bf16) : FVec Ideal S96x226x224 .bf16 :=
  concatenate S96x226x224 1 [⟨S96x225x224, top y⟩, ⟨S96x1x224, Host.reverse [1] (extractStridedSlice S96x1x224 ![0, 223, 0] (top y) slices_S96x225x224_S96x1x224_0_223_0)⟩] concatenates_S96x225x224_S96x1x224_S96x226x224_d1

/-- Those with a column in front. -/
def left (y : FVec Ideal S96x224x224 .bf16) : FVec Ideal S96x226x225 .bf16 :=
  concatenate S96x226x225 2 [⟨S96x226x1, Host.reverse [2] (extractStridedSlice S96x226x1 ![0, 0, 1] (rows y) slices_S96x226x224_S96x226x1_0_0_1)⟩, ⟨S96x226x224, rows y⟩] concatenates_S96x226x1_S96x226x224_S96x226x225_d2

/-- Those with a column in front and a column behind. -/
def padded (y : FVec Ideal S96x224x224 .bf16) : FVec Ideal S96x226x226 .bf16 :=
  concatenate S96x226x226 2 [⟨S96x226x225, left y⟩, ⟨S96x226x1, Host.reverse [2] (extractStridedSlice S96x226x1 ![0, 0, 223] (left y) slices_S96x226x225_S96x226x1_0_0_223)⟩] concatenates_S96x226x225_S96x226x1_S96x226x226_d2

/-- Two arrays joined along an axis. -/
def join {α : Type} {A B : Shape} (C : Shape) (d : Fin C.rank) (h : Shape.Concatenates [A, B] C d) (a : A.Idx → α) (b : B.Idx → α) :
    C.Idx → α := concatenate C d [⟨A, a⟩, ⟨B, b⟩] h

/-- A concatenation of two arrays is their `join`. -/
theorem join_fold {α : Type} {A B : Shape} (C : Shape) (d : Fin C.rank) (h : Shape.Concatenates [A, B] C d) (a : A.Idx → α) (b : B.Idx → α) :
    concatenate C d [⟨A, a⟩, ⟨B, b⟩] h = join C d h a b := rfl

variable (m : (ℓ : Loc nD τ sig) → Buf (Elt Ideal) ℓ)

/-- The padding's operations leave the padded images in the call's first operand. -/
theorem opsA (W : Valuation τ sig (Elt Ideal)) :
    StableHlo.after (hostOps0_1 (F := Ideal)) W (Proc.devRef .tc main_v2) = padded (W (Proc.devRef .tc main_v1)) := by
  after_reads_simp [join_fold]
  simp -implicitDefEqProofs only [StableHlo.TRef.toBuf, StableHlo.TRef.ofBuf, cast_cast, cast_eq]
  rfl

/-- The window's operations leave the padded images as they are. -/
theorem opsB (W : Valuation τ sig (Elt Ideal)) :
    StableHlo.after (hostOps0_2 (F := Ideal)) W (Proc.devRef .tc main_v2) = W (Proc.devRef .tc main_v2) := by
  after_reads_simp

/-- The padding's operations leave the unpadded images as they are. -/
theorem opsC (W : Valuation τ sig (Elt Ideal)) :
    StableHlo.after (hostOps0_1 (F := Ideal)) W (Proc.devRef .tc main_v1) = W (Proc.devRef .tc main_v1) := by
  after_reads_simp

/-- The window's operations leave the unpadded images as they are. -/
theorem opsD (W : Valuation τ sig (Elt Ideal)) :
    StableHlo.after (hostOps0_2 (F := Ideal)) W (Proc.devRef .tc main_v1) = W (Proc.devRef .tc main_v1) := by
  after_reads_simp

/-- The call's first operand is the unpadded images, padded. -/
theorem V2 (c : Dev nD) :
    V m c main_v2 = padded (V m c main_v1) := by
  unfold V
  simp only [List.flatten_cons, List.flatten_nil, List.append_nil]
  simp only [StableHlo.after_append]
  rw [opsB, opsA, opsD, opsC]

/-- The images before padding: plane `n` of the kernel's argument is image `n / 3`, channel `n % 3`. -/
theorem V1_apply (c : Dev nD) (n : Fin 96) (i j : Fin 224) :
    (V m c main_v1 : FVec Ideal S96x224x224 .bf16) (ix3 n i j)
      = (m (c, Proc.devRef .tc main_arg0) : FVec Ideal S32x3x224x224 .f32) (ix4 ⟨n.val / 3, by omega⟩ ⟨n.val % 3, by omega⟩ i j) := by
  unfold V
  simp only [List.flatten_cons, List.flatten_nil, List.append_nil, List.cons_append, List.nil_append]
  after_reads_at

/-- The images with a row in front, at an index. -/
theorem top_apply (y : FVec Ideal S96x224x224 .bf16) (n : Fin 96) (i : Fin 225) (j : Fin 224) :
    top y (ix3 n i j) = y (ix3 n (if h : i.val = 0 then 1 else ⟨i.val - 1, by omega⟩) j) := by
  pointwise [top]
  by_cases h : i.val = 0
  · rw [dif_pos (by omega), dif_pos h]; rfl
  · rw [dif_neg (by omega), dif_neg h]

/-- The images with a row at both ends, at an index. -/
theorem rows_apply (y : FVec Ideal S96x224x224 .bf16) (n : Fin 96) (i : Fin 226) (j : Fin 224) :
    rows y (ix3 n i j) = y (ix3 n (rho i) j) := by
  pointwise [rows]
  by_cases h : i.val < 225
  · rw [dif_pos h, top_apply]
    by_cases h0 : i.val = 0
    · rw [dif_pos h0, rho_zero i h0]
    · rw [dif_neg h0, rho_mid i h0 h]
  · rw [dif_neg h, rho_last i h]
    exact top_apply y n 223 j

/-- Those with a column in front, at an index. -/
theorem left_apply (y : FVec Ideal S96x224x224 .bf16) (n : Fin 96) (i : Fin 226) (j : Fin 225) :
    left y (ix3 n i j) = y (ix3 n (rho i) (if h : j.val = 0 then 1 else ⟨j.val - 1, by omega⟩)) := by
  pointwise [left]
  by_cases h : j.val = 0
  · rw [dif_pos (by omega), dif_pos h]; exact rows_apply y n i 1
  · rw [dif_neg (by omega), dif_neg h, rows_apply]

/-- The padded images, at an index. -/
theorem padded_apply (y : FVec Ideal S96x224x224 .bf16) (n : Fin 96) (i j : Fin 226) :
    padded y (ix3 n i j) = y (ix3 n (rho i) (rho j)) := by
  pointwise [padded]
  by_cases h : j.val < 225
  · rw [dif_pos h, left_apply]
    by_cases h0 : j.val = 0
    · rw [dif_pos h0, rho_zero j h0]
    · rw [dif_neg h0, rho_mid j h0 h]
  · rw [dif_neg h, rho_last j h]
    exact left_apply y n i 223

/-- What the kernel's call reads: the argument's images, their borders mirrored. -/
theorem V2_apply (c : Dev nD) (n : Fin 96) (i j : Fin 226) :
    (V m c main_v2 : FVec Ideal S96x226x226 .bf16) (ix3 n i j)
      = (m (c, Proc.devRef .tc main_arg0) : FVec Ideal S32x3x224x224 .f32)
          (ix4 ⟨n.val / 3, by omega⟩ ⟨n.val % 3, by omega⟩ (rho i) (rho j)) := by
  rw [V2]
  exact (padded_apply _ n i j).trans (V1_apply m c n (rho i) (rho j))

end Cert.Proof.KerPad

end
-- ==== Proof.Grad.lean ====
/- The two Sobel derivatives of a padded image of reals. -/
module

public import Idealize.ShloMosaic.PureOps.Ideal

@[expose] public section

noncomputable section

namespace Cert.Proof

/-- The derivative along a row, at pixel `(i, j)` of a padded image. -/
def gradX (p : Fin 226 → Fin 226 → ℝ) (i j : Fin 224) : ℝ :=
  p ⟨i.val, by omega⟩ ⟨j.val, by omega⟩ - p ⟨i.val, by omega⟩ ⟨2 + j.val, by omega⟩
    + 2 * (p ⟨1 + i.val, by omega⟩ ⟨j.val, by omega⟩ - p ⟨1 + i.val, by omega⟩ ⟨2 + j.val, by omega⟩)
    + (p ⟨2 + i.val, by omega⟩ ⟨j.val, by omega⟩ - p ⟨2 + i.val, by omega⟩ ⟨2 + j.val, by omega⟩)

/-- The derivative along a column, at pixel `(i, j)` of a padded image. -/
def gradY (p : Fin 226 → Fin 226 → ℝ) (i j : Fin 224) : ℝ :=
  p ⟨i.val, by omega⟩ ⟨j.val, by omega⟩ + 2 * p ⟨i.val, by omega⟩ ⟨1 + j.val, by omega⟩ + p ⟨i.val, by omega⟩ ⟨2 + j.val, by omega⟩
    - (p ⟨2 + i.val, by omega⟩ ⟨j.val, by omega⟩ + 2 * p ⟨2 + i.val, by omega⟩ ⟨1 + j.val, by omega⟩
        + p ⟨2 + i.val, by omega⟩ ⟨2 + j.val, by omega⟩)

/-- The word `0x40000000` is two. -/
theorem bits_two : Idealize.ShloMosaic.Ideal.ofBits .f32 0x40000000#32 = ((2 : ℝ) : EReal) := by
  simp [Idealize.ShloMosaic.Ideal.ofBits, Idealize.ShloMosaic.Ideal.ieee, -EReal.coe_mul]; norm_num

/-- The word `0xC0000000` is minus two. -/
theorem bits_neg_two : Idealize.ShloMosaic.Ideal.ofBits .f32 0xC0000000#32 = ((-2 : ℝ) : EReal) := by
  simp [Idealize.ShloMosaic.Ideal.ofBits, Idealize.ShloMosaic.Ideal.ieee, -EReal.coe_mul, -EReal.coe_neg]; norm_num

/-- The word `0xBF800000` is minus one. -/
theorem bits_neg_one : Idealize.ShloMosaic.Ideal.ofBits .f32 0xBF800000#32 = ((-1 : ℝ) : EReal) := by
  simp [Idealize.ShloMosaic.Ideal.ofBits, Idealize.ShloMosaic.Ideal.ieee, -EReal.coe_mul, -EReal.coe_neg]; norm_num

/-- The word `0x41100000` is nine. -/
theorem bits_nine : Idealize.ShloMosaic.Ideal.ofBits .f32 0x41100000#32 = ((9 : ℝ) : EReal) := by
  simp [Idealize.ShloMosaic.Ideal.ofBits, Idealize.ShloMosaic.Ideal.ieee, -EReal.coe_mul]; norm_num

end Cert.Proof

end
-- ==== Proof.KerGrad.lean ====
/- The kernel's derivatives, norm and cotangent read at an index. -/
module

public import proofs.«01_k».proof.Proof.Gen.KernelIdeal.Value
public import proofs.«01_k».proof.Proof.Grad
public import Idealize.ShloMosaic.Lib.Pointwise
public import Idealize.ShloMosaic.Lib.IdealHost

@[expose] public section

set_option maxRecDepth 16384

noncomputable section

namespace Cert.Proof.KerGrad

open Cert.KernelIdeal Cert.KernelIdeal.Gen Idealize.ShloMosaic

variable (x0 : FVec Ideal S1x226x226 .bf16) (x1 : FVec Ideal S224x224 .f32) (p : Fin 226 → Fin 226 → ℝ)

/-- The kernel's derivative along a row, of a block of reals. -/
theorem gx_apply (h : ∀ a d, x0 (ix3 0 a d) = ((p a d : ℝ) : EReal)) (i j : Fin 224) :
    k0_pay11 (F := Ideal) x0 (ix2 i j) = ((gradX p i j : ℝ) : EReal) := by
  pointwise [k0_pay11, k0_pay9, k0_pay8, k0_pay7, h]
  simp only [bits_two, ← EReal.coe_mul, ← EReal.coe_add, ← EReal.coe_sub]
  rfl

/-- The kernel's derivative along a column, of a block of reals. -/
theorem gy_apply (h : ∀ a d, x0 (ix3 0 a d) = ((p a d : ℝ) : EReal)) (i j : Fin 224) :
    k0_pay10 (F := Ideal) x0 (ix2 i j) = ((gradY p i j : ℝ) : EReal) := by
  pointwise [k0_pay10, k0_pay9, k0_pay8, k0_pay7, h]
  simp only [bits_two, ← EReal.coe_mul, ← EReal.coe_add, ← EReal.coe_sub]
  rfl

/-- The kernel's weighted norm. -/
theorem norm_apply (h : ∀ a d, x0 (ix3 0 a d) = ((p a d : ℝ) : EReal)) (i j : Fin 224) :
    k0_pay12 (F := Ideal) x0 x1 (ix2 i j)
      = ((√(gradX p i j * gradX p i j + gradY p i j * gradY p i j) : ℝ) : EReal) * x1 (ix2 i j) := by
  pointwise [k0_pay12]
  rw [gx_apply x0 p h, gy_apply x0 p h, ← EReal.coe_mul, ← EReal.coe_mul, ← EReal.coe_add, Ideal.sqrt_coe,
    if_neg (not_lt.mpr (add_nonneg (mul_self_nonneg _) (mul_self_nonneg _)))]

/-- The kernel's cotangent: infinite where the derivative along the row vanishes. -/
theorem cot_apply (h : ∀ a d, x0 (ix3 0 a d) = ((p a d : ℝ) : EReal)) (i j : Fin 224) :
    k0_pay13 (F := Ideal) x0 (ix2 i j)
      = if gradX p i j = 0 then ⊤ else ((gradY p i j / gradX p i j : ℝ) : EReal) := by
  pointwise [k0_pay13]
  rw [gx_apply x0 p h, gy_apply x0 p h]
  by_cases h0 : gradX p i j = 0
  · rw [if_pos h0, h0, if_pos (by norm_num)]
    simp [Ideal.ofBits, Ideal.ieee]
  · rw [if_neg h0, if_neg (by simpa using h0), Ideal.div_coe h0, ← EReal.coe_mul, mul_one_div]

end Cert.Proof.KerGrad

end
-- ==== Proof.Win.lean ====
/- The Gaussian window, as a table of reals. -/
module

public import Idealize.ShloMosaic.PureOps.Ideal

@[expose] public section

noncomputable section

namespace Cert.Proof.Win

open Idealize.ShloMosaic

/-- The window's coordinate: the sample's distance from the middle, in units of eight. -/
def crd (a : ℕ) : ℝ := ((a : ℝ) - 15 / 2) / 8

/-- One side's weight. -/
def side (a : ℕ) : ℝ := Real.exp (-(1 / 2) * (crd a * crd a))

/-- The total weight. -/
def total : ℝ := ∑ x : Fin 16, ∑ y : Fin 16, side x.val * side y.val

/-- The window's weight at `(a, b)`. -/
def win (a b : ℕ) : ℝ := side a * side b * (1 / total)

/-- The total weight is positive. -/
theorem total_pos : 0 < total :=
  Finset.sum_pos (fun x _ => Finset.sum_pos (fun y _ => mul_pos (Real.exp_pos _) (Real.exp_pos _)) ⟨0, Finset.mem_univ _⟩)
    ⟨0, Finset.mem_univ _⟩

/-- A small natural number's word, converted. -/
theorem sitofp_small (n : ℕ) (h : n < 16) : (FloatOps.sitofp (F := Ideal) .f32 (BitVec.ofNat 32 n) : EReal) = ((n : ℝ) : EReal) := by
  have e : (BitVec.ofNat 32 n).toInt = (n : ℤ) := by
    rw [BitVec.toInt_ofNat', Int.bmod_eq_of_le] <;> omega
  show (((BitVec.ofNat 32 n).toInt : ℝ) : EReal) = _
  rw [e]; norm_num

/-- The word of sixteen. -/
theorem bits_sixteen : Ideal.ofBits .f32 0x41800000#32 = ((16 : ℝ) : EReal) := by
  simp [Ideal.ofBits, Ideal.ieee, -EReal.coe_mul]; norm_num

/-- The word of eight. -/
theorem bits_eight : Ideal.ofBits .f32 0x41000000#32 = ((8 : ℝ) : EReal) := by
  simp [Ideal.ofBits, Ideal.ieee, -EReal.coe_mul]; norm_num

/-- The word of minus one half. -/
theorem bits_neg_half : Ideal.ofBits .f32 0xBF000000#32 = ((-(1 / 2) : ℝ) : EReal) := by
  simp [Ideal.ofBits, Ideal.ieee, -EReal.coe_mul, -EReal.coe_neg]; norm_num

/-- A finite sum of reals. -/
theorem coe_sum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- The samples' mean. -/
theorem mean_eq : Ideal.div (∑ x : Fin 16, (FloatOps.sitofp (F := Ideal) .f32 (BitVec.ofNat 32 x.val) : EReal)) (Ideal.ofBits .f32 0x41800000#32)
    = ((15 / 2 : ℝ) : EReal) := by
  rw [Finset.sum_congr rfl fun x _ => sitofp_small x.val x.isLt, coe_sum, bits_sixteen, Ideal.div_coe (by norm_num), ← EReal.coe_mul]
  refine congrArg _ ?_
  simp only [Fin.sum_univ_succ, Fin.sum_univ_zero]
  norm_num

/-- The coordinate as both programs compute it. -/
theorem crd_eq (n : ℕ) (h : n < 16) :
    Ideal.div ((FloatOps.sitofp (F := Ideal) .f32 (BitVec.ofNat 32 n) : EReal)
        - Ideal.div (∑ x : Fin 16, (FloatOps.sitofp (F := Ideal) .f32 (BitVec.ofNat 32 x.val) : EReal)) (Ideal.ofBits .f32 0x41800000#32))
      (Ideal.ofBits .f32 0x41000000#32) = ((crd n : ℝ) : EReal) := by
  rw [mean_eq, sitofp_small n h, bits_eight, Ideal.div_coe (by norm_num), ← EReal.coe_sub, ← EReal.coe_mul]
  refine congrArg _ ?_
  unfold crd
  ring

/-- One side's weight as the reference computes it, the coordinate squared first. -/
theorem side_eq (n : ℕ) (h : n < 16) :
    Ideal.exp (Ideal.ofBits .f32 0xBF000000#32 *
      (Ideal.div ((FloatOps.sitofp (F := Ideal) .f32 (BitVec.ofNat 32 n) : EReal)
        - Ideal.div (∑ x : Fin 16, (FloatOps.sitofp (F := Ideal) .f32 (BitVec.ofNat 32 x.val) : EReal)) (Ideal.ofBits .f32 0x41800000#32))
      (Ideal.ofBits .f32 0x41000000#32) *
       Ideal.div ((FloatOps.sitofp (F := Ideal) .f32 (BitVec.ofNat 32 n) : EReal)
        - Ideal.div (∑ x : Fin 16, (FloatOps.sitofp (F := Ideal) .f32 (BitVec.ofNat 32 x.val) : EReal)) (Ideal.ofBits .f32 0x41800000#32))
      (Ideal.ofBits .f32 0x41000000#32))) = ((side n : ℝ) : EReal) := by
  rw [crd_eq n h, bits_neg_half, ← EReal.coe_mul, ← EReal.coe_mul, Ideal.exp_coe]
  rfl

/-- One side's weight as the kernel's program computes it, the factors from the left. -/
theorem side_eq_left (n : ℕ) (h : n < 16) :
    Ideal.exp (Ideal.ofBits .f32 0xBF000000#32 *
      Ideal.div ((FloatOps.sitofp (F := Ideal) .f32 (BitVec.ofNat 32 n) : EReal)
        - Ideal.div (∑ x : Fin 16, (FloatOps.sitofp (F := Ideal) .f32 (BitVec.ofNat 32 x.val) : EReal)) (Ideal.ofBits .f32 0x41800000#32))
      (Ideal.ofBits .f32 0x41000000#32) *
       Ideal.div ((FloatOps.sitofp (F := Ideal) .f32 (BitVec.ofNat 32 n) : EReal)
        - Ideal.div (∑ x : Fin 16, (FloatOps.sitofp (F := Ideal) .f32 (BitVec.ofNat 32 x.val) : EReal)) (Ideal.ofBits .f32 0x41800000#32))
      (Ideal.ofBits .f32 0x41000000#32)) = ((side n : ℝ) : EReal) := by
  rw [mul_assoc, side_eq n h]

/-- The weight at `(a, b)`: the product of the sides over the total. -/
theorem win_eq (a b : ℕ) :
    Ideal.div (((side a : ℝ) : EReal) * ((side b : ℝ) : EReal))
      (∑ x : Fin 16, ∑ y : Fin 16, ((side x.val : ℝ) : EReal) * ((side y.val : ℝ) : EReal)) = ((win a b : ℝ) : EReal) := by
  have e : (∑ x : Fin 16, ∑ y : Fin 16, ((side x.val : ℝ) : EReal) * ((side y.val : ℝ) : EReal)) = ((total : ℝ) : EReal) := by
    simp only [← EReal.coe_mul, coe_sum]
    rfl
  rw [e, Ideal.div_coe total_pos.ne', ← EReal.coe_mul, ← EReal.coe_mul]
  rfl

end Cert.Proof.Win

end
-- ==== Proof.KerWin.lean ====
/- The window that the kernel's call reads, at an index. -/
module

public import proofs.«01_k».proof.Proof.Gen.KernelIdeal.Value
public import proofs.«01_k».proof.Proof.Win
public import Idealize.ShloMosaic.Lib.Pointwise
public import Idealize.ShloMosaic.Lib.IdealHost
public import Idealize.ShloMosaic.Lib.StableHlo.ReadAt

@[expose] public section

set_option maxRecDepth 16384

noncomputable section

namespace Cert.Proof.KerWin

open Cert.KernelIdeal Cert.KernelIdeal.Gen Idealize.ShloMosaic Idealize.ShloMosaic.TcCoe

variable (m : (ℓ : Loc nD τ sig) → Buf (Elt Ideal) ℓ)

/-- The window that the kernel's call reads: the sixteen by sixteen table repeated. -/
theorem win_apply (c : Dev nD) (i j : Fin 224) :
    (V m c main_v24 : FVec Ideal S224x224 .f32) (ix2 i j) = ((Win.win (i.val % 16) (j.val % 16) : ℝ) : EReal) := by
  unfold V
  simp only [hostOps0, hostOps0_1, hostOps0_2, List.flatten_cons, List.flatten_nil, List.append_nil, List.cons_append,
      List.nil_append]
  after_reads_at
  simp only [Win.side_eq_left _ (Nat.mod_lt i.val (by decide : 0 < 16)), Win.side_eq_left _ (Nat.mod_lt j.val (by decide : 0 < 16))]
  exact (congrArg _ (Finset.sum_congr rfl fun x _ => Finset.sum_congr rfl fun y _ => by
    rw [Win.side_eq_left _ x.isLt, Win.side_eq_left _ y.isLt])).trans (Win.win_eq (i.val % 16) (j.val % 16))

end Cert.Proof.KerWin

end
-- ==== Proof.RefPad.lean ====
/- The reference's padded images read at an index. -/
module

public import proofs.«01_k».proof.Proof.Gen.ReferenceIdeal.Read
public import proofs.«01_k».proof.Proof.Edge
public import Idealize.ShloMosaic.Lib.Pointwise
public import Idealize.ShloMosaic.Lib.IdealHost

@[expose] public section

set_option maxRecDepth 16384

noncomputable section

namespace Cert.Proof.RefPad

open Cert.ReferenceIdeal Cert.ReferenceIdeal.Gen Cert.ReferenceIdeal.Read Idealize.ShloMosaic

/-- The images with a row in front, at an index. -/
theorem top_apply (x : FVec Ideal S32x3x224x224 .f32) (b : Fin 32) (c : Fin 3) (i : Fin 225) (j : Fin 224) :
    val_main_call0_v3 (F := Ideal) x (ix4 b c i j) = x (ix4 b c (if h : i.val = 0 then 1 else ⟨i.val - 1, by omega⟩) j) := by
  pointwise [val_main_call0_v3, val_main_call0_v2, val_main_call0_v1]
  by_cases h : i.val = 0
  · rw [dif_pos (by omega), dif_pos h]; rfl
  · rw [dif_neg (by omega), dif_neg h]

/-- The images with a row at both ends, at an index. -/
theorem rows_apply (x : FVec Ideal S32x3x224x224 .f32) (b : Fin 32) (c : Fin 3) (i : Fin 226) (j : Fin 224) :
    val_main_call0_v7 (F := Ideal) x (ix4 b c i j) = x (ix4 b c (rho i) j) := by
  pointwise [val_main_call0_v7, val_main_call0_v6, val_main_call0_v5]
  by_cases h : i.val < 225
  · rw [dif_pos h, top_apply]
    by_cases h0 : i.val = 0
    · rw [dif_pos h0, rho_zero i h0]
    · rw [dif_neg h0, rho_mid i h0 h]
  · rw [dif_neg h, rho_last i h]
    exact top_apply x b c 223 j

/-- Those with a column in front, at an index. -/
theorem left_apply (x : FVec Ideal S32x3x224x224 .f32) (b : Fin 32) (c : Fin 3) (i : Fin 226) (j : Fin 225) :
    val_main_call0_v11 (F := Ideal) x (ix4 b c i j) = x (ix4 b c (rho i) (if h : j.val = 0 then 1 else ⟨j.val - 1, by omega⟩)) := by
  pointwise [val_main_call0_v11, val_main_call0_v10, val_main_call0_v9]
  by_cases h : j.val = 0
  · rw [dif_pos (by omega), dif_pos h]; exact rows_apply x b c i 1
  · rw [dif_neg (by omega), dif_neg h, rows_apply]

/-- The padded images, at an index. -/
theorem pad_apply (x : FVec Ideal S32x3x224x224 .f32) (b : Fin 32) (c : Fin 3) (i j : Fin 226) :
    val_main_v0 (F := Ideal) x (ix4 b c i j) = x (ix4 b c (rho i) (rho j)) := by
  pointwise [val_main_v0, val_main_call0_v14, val_main_call0_v13]
  by_cases h : j.val < 225
  · rw [dif_pos h, left_apply]
    by_cases h0 : j.val = 0
    · rw [dif_pos h0, rho_zero j h0]
    · rw [dif_neg h0, rho_mid j h0 h]
  · rw [dif_neg h, rho_last j h]
    exact left_apply x b c i 223

end Cert.Proof.RefPad

end
-- ==== Proof.RefGrad.lean ====
/- The reference's derivatives read at an index. -/
module

public import proofs.«01_k».proof.Proof.RefPad
public import proofs.«01_k».proof.Proof.Grad

@[expose] public section

set_option maxRecDepth 16384

noncomputable section

namespace Cert.Proof.RefGrad

open Cert.ReferenceIdeal Cert.ReferenceIdeal.Gen Cert.ReferenceIdeal.Read Idealize.ShloMosaic

/-- The reference's derivative along a row, of an image of reals. -/
theorem gx_apply (r : S32x3x224x224.Idx → ℝ) (b : Fin 32) (c : Fin 3) (i j : Fin 224) :
    val_main_v37 (F := Ideal) (fun y => (r y : EReal)) (ix4 b c i j)
      = ((gradX (fun a d => r (ix4 b c (rho a) (rho d))) i j : ℝ) : EReal) := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6, val_main_cst_7, val_main_cst_8, RefPad.pad_apply]
  simp only [bits_neg_one, bits_two, bits_neg_two, zero_mul, add_zero, ← EReal.coe_mul, ← EReal.coe_add, ← EReal.coe_sub]
  refine congrArg _ ?_
  unfold gradX
  ring

/-- The reference's derivative along a column, of an image of reals. -/
theorem gy_apply (r : S32x3x224x224.Idx → ℝ) (b : Fin 32) (c : Fin 3) (i j : Fin 224) :
    val_main_v74 (F := Ideal) (fun y => (r y : EReal)) (ix4 b c i j)
      = ((gradY (fun a d => r (ix4 b c (rho a) (rho d))) i j : ℝ) : EReal) := by
  pointwise [val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_9, val_main_cst_10, val_main_cst_11, val_main_cst_12, val_main_cst_13, val_main_cst_14, val_main_cst_15, val_main_cst_16, val_main_cst_17, val_main_cst_18, RefPad.pad_apply]
  simp only [bits_neg_one, bits_two, bits_neg_two, zero_mul, add_zero, ← EReal.coe_mul, ← EReal.coe_add, ← EReal.coe_sub]
  refine congrArg _ ?_
  unfold gradY
  ring

end Cert.Proof.RefGrad

end
-- ==== Proof.RefWin.lean ====
/- The reference's window read at an index. -/
module

public import proofs.«01_k».proof.Proof.Gen.ReferenceIdeal.Read
public import proofs.«01_k».proof.Proof.Win
public import Idealize.ShloMosaic.Lib.Pointwise
public import Idealize.ShloMosaic.Lib.IdealHost

@[expose] public section

set_option maxRecDepth 16384

noncomputable section

namespace Cert.Proof.RefWin

open Cert.ReferenceIdeal Cert.ReferenceIdeal.Gen Cert.ReferenceIdeal.Read Idealize.ShloMosaic

/-- The reference's window. -/
theorem win_apply (i j : Fin 16) : val_main_v103 (F := Ideal) (ix2 i j) = ((Win.win i.val j.val : ℝ) : EReal) := by
  pointwise [val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_cst_20, val_main_cst_21, val_main_cst_22, val_main_cst_23, val_main_cst_24, val_main_cst_25]
  simp only [Win.side_eq _ i.isLt, Win.side_eq _ j.isLt]
  exact (congrArg _ (Finset.sum_congr rfl fun x _ => Finset.sum_congr rfl fun y _ => by
    rw [Win.side_eq _ x.isLt, Win.side_eq _ y.isLt])).trans (Win.win_eq i.val j.val)

end Cert.Proof.RefWin

end
-- ==== Proof.Angle.lean ====
/- The angle of a gradient and its bin, over the reals: the two-argument arctangent by its quotient, the floor of nine
   times the angle over π, and the comparison of the quotient with the cotangents of the multiples of π/9. -/
module

public import Idealize.ShloMosaic.PureOps.Ideal

@[expose] public section

noncomputable section

namespace Cert.Proof.Angle

open Idealize.ShloMosaic Real

/-- The angle that `atan2 y x` is at real arguments. -/
def ang (y x : ℝ) : ℝ :=
  if 0 < x then arctan (y / x)
  else if x < 0 then (if 0 ≤ y then arctan (y / x) + π else arctan (y / x) - π)
  else if 0 < y then π / 2 else if y < 0 then -(π / 2) else 0

/-- The two-argument arctangent at reals. -/
theorem atan2_coe (y x : ℝ) : Ideal.atan2 (y : EReal) (x : EReal) = ((ang y x : ℝ) : EReal) := rfl

/-- The angle's bin: the angle modulo π in ninths of π, rounded down. -/
def bin (y x : ℝ) : ℤ := if y = 0 then 0 else ⌊(π / 2 - arctan (x / y)) / π * 9⌋

/-- Above the axis the angle is π/2 less the arctangent of the reciprocal quotient. -/
theorem ang_pos {y : ℝ} (hy : 0 < y) (x : ℝ) : ang y x = π / 2 - arctan (x / y) := by
  unfold ang
  rcases lt_trichotomy x 0 with hx | rfl | hx
  · have h : x / y < 0 := div_neg_of_neg_of_pos hx hy
    rw [if_neg (not_lt.mpr hx.le), if_pos hx, if_pos hy.le, ← inv_div x y, arctan_inv_of_neg h]
    ring
  · simp [hy]
  · have h : 0 < x / y := div_pos hx hy
    rw [if_pos hx, ← inv_div x y, arctan_inv_of_pos h]

/-- Below the axis it is that less π. -/
theorem ang_neg {y : ℝ} (hy : y < 0) (x : ℝ) : ang y x = π / 2 - arctan (x / y) - π := by
  unfold ang
  rcases lt_trichotomy x 0 with hx | rfl | hx
  · have h : 0 < x / y := div_pos_of_neg_of_neg hx hy
    rw [if_neg (not_lt.mpr hx.le), if_pos hx, if_neg (not_le.mpr hy), ← inv_div x y, arctan_inv_of_pos h]
  · rw [if_neg (lt_irrefl _), if_neg (lt_irrefl _), if_neg (not_lt.mpr hy.le), if_pos hy]
    simp; ring
  · have h : x / y < 0 := div_neg_of_pos_of_neg hx hy
    rw [if_pos hx, ← inv_div x y, arctan_inv_of_neg h]
    ring

/-- The bin is one of 0 … 8. -/
theorem bin_range (y x : ℝ) : 0 ≤ bin y x ∧ bin y x ≤ 8 := by
  unfold bin
  split_ifs with h
  · simp
  have h1 := arctan_lt_pi_div_two (x / y)
  have h2 := neg_pi_div_two_lt_arctan (x / y)
  have hp := pi_pos
  have a : 0 < (π / 2 - arctan (x / y)) / π := div_pos (by linarith) hp
  have b : (π / 2 - arctan (x / y)) / π < 1 := (div_lt_one hp).mpr (by linarith)
  refine ⟨Int.floor_nonneg.mpr (by linarith), ?_⟩
  exact Int.lt_add_one_iff.mp (Int.floor_lt.mpr (by push_cast; linarith))

/-- The floor of nine times the angle over π is the bin up to one turn of nine. -/
theorem floor_ang (y x : ℝ) : ⌊ang y x * (1 / π) * 9⌋ = bin y x ∨ ⌊ang y x * (1 / π) * 9⌋ = bin y x - 9
    ∨ (⌊ang y x * (1 / π) * 9⌋ = 9 ∧ bin y x = 0) := by
  have hp := pi_pos
  rcases lt_trichotomy y 0 with hy | rfl | hy
  · right; left
    rw [ang_neg hy, bin, if_neg hy.ne, ← Int.floor_sub_ofNat]
    congr 1
    field_simp
  · unfold ang bin
    rw [if_pos rfl]
    rcases lt_trichotomy x 0 with hx | rfl | hx
    · right; right
      rw [if_neg (not_lt.mpr hx.le), if_pos hx, if_pos le_rfl]
      refine ⟨?_, rfl⟩
      rw [zero_div, arctan_zero, zero_add, mul_one_div_cancel hp.ne']
      norm_num
    · left; simp
    · left; simp [hx]
  · left
    rw [ang_pos hy, bin, if_neg hy.ne']
    congr 1
    field_simp

/-- The quotient is at most the cotangent of `m π / 9` exactly when the bin is at least `m`. -/
theorem le_cot_iff {y : ℝ} (hy : y ≠ 0) (x : ℝ) (m : ℕ) (h1 : 1 ≤ m) (h8 : m ≤ 8) :
    x / y ≤ cos (π * m / 9) / sin (π * m / 9) ↔ (m : ℤ) ≤ bin y x := by
  have hp := pi_pos
  have m1 : (1 : ℝ) ≤ m := by exact_mod_cast h1
  have m8 : (m : ℝ) ≤ 8 := by exact_mod_cast h8
  have e : cos (π * m / 9) / sin (π * m / 9) = tan (π / 2 - π * m / 9) := by
    rw [tan_eq_sin_div_cos, sin_pi_div_two_sub, cos_pi_div_two_sub]
  have t : arctan (tan (π / 2 - π * m / 9)) = π / 2 - π * m / 9 :=
    arctan_tan (by nlinarith) (by nlinarith)
  rw [e, ← arctan_strictMono.le_iff_le, t, bin, if_neg hy, Int.le_floor, div_mul_eq_mul_div, le_div_iff₀ hp]
  push_cast
  constructor <;> intro h <;> linarith

end Cert.Proof.Angle

end
-- ==== Proof.Wrap.lean ====
/- The word that the reference's bin is: the floor of the phase, wrapped into the nine bins. -/
module

public import Idealize.ShloMosaic.PureOps.Ideal

@[expose] public section

noncomputable section

namespace Cert.Proof.Wrap

open Idealize.ShloMosaic

/-- The word nine, converted. -/
theorem nine : (FloatOps.sitofp (F := Ideal) .f32 9#32 : EReal) = ((9 : ℝ) : EReal) := by
  show (((9#32 : BitVec 32).toInt : ℝ) : EReal) = _
  have e : (9#32 : BitVec 32).toInt = 9 := by decide
  rw [e]; norm_num

/-- The remainder of an integer from minus nine to nine by nine, towards zero. -/
theorem remf_nine (f : ℤ) (h0 : -9 ≤ f) (h1 : f ≤ 9) :
    Ideal.remf ((f : ℝ) : EReal) ((9 : ℝ) : EReal) = (((if f = 9 ∨ f = -9 then 0 else f : ℤ) : ℝ) : EReal) := by
  rw [Ideal.remf_coe, if_neg (by norm_num)]
  refine congrArg _ ?_
  by_cases e9 : f = 9
  · have t : Ideal.truncInt (((9 : ℤ) : ℝ) / 9) = 1 := by
      rw [Ideal.truncInt, if_pos (by norm_num), Int.floor_eq_iff]; norm_num
    rw [e9, t]; norm_num
  by_cases em : f = -9
  · have t : Ideal.truncInt (((-9 : ℤ) : ℝ) / 9) = -1 := by
      rw [Ideal.truncInt, if_neg (by norm_num), Int.ceil_eq_iff]; norm_num
    rw [em, t]; norm_num
  have t : Ideal.truncInt ((f : ℝ) / 9) = 0 := by
    rw [Ideal.truncInt]
    split
    · have : (f : ℝ) ≤ 8 := by exact_mod_cast (by omega : f ≤ 8)
      rw [Int.floor_eq_iff]
      exact ⟨by simpa using ‹0 ≤ (f : ℝ) / 9›, by norm_num; linarith⟩
    · have g : (-8 : ℝ) ≤ f := by exact_mod_cast (by omega : -8 ≤ f)
      rename_i hn
      rw [not_le] at hn
      rw [Int.ceil_eq_iff]
      exact ⟨by norm_num; linarith, by norm_num; linarith⟩
  rw [t, if_neg (by omega)]
  norm_num

/-- A small integer's word. -/
theorem fptosi_int (t : ℤ) (h0 : 0 ≤ t) (h1 : t ≤ 8) :
    FloatOps.fptosi (F := Ideal) (φ := .f32) 32 ((t : ℝ) : EReal) = BitVec.ofInt 32 t := by
  show BitVec.ofInt 32 (Ideal.toIntClamped _ _ _) = _
  rw [Ideal.toIntClamped_coe, if_pos (by exact_mod_cast h0), Int.floor_intCast]
  congr 1
  omega

/-- The reference's wrapping of a remainder `t`: nine added to a negative one. -/
theorem wrap_int (t : ℤ) (h0 : -9 < t) (h1 : t < 9) :
    FloatOps.fptosi (F := Ideal) (φ := .f32) 32
      (Scalar.select
        (IntOp.andi
          (IntOp.cmpi .ne (BitVec.ofBool (decide (((t : ℝ) : EReal) < 0))) (BitVec.ofBool (decide (((9 : ℝ) : EReal) < 0))))
          (BitVec.ofBool (decide (((t : ℝ) : EReal) ≠ 0))))
        (((t : ℝ) : EReal) + ((9 : ℝ) : EReal)) ((t : ℝ) : EReal)) = BitVec.ofInt 32 (t % 9) := by
  have n9 : ¬ (((9 : ℝ) : EReal) < 0) := by norm_num
  rcases lt_trichotomy t 0 with h | h | h
  · have l : ((t : ℝ) : EReal) < 0 := by exact_mod_cast h
    rw [decide_eq_true l, decide_eq_true l.ne, decide_eq_false n9]
    have e : ((t : ℝ) : EReal) + ((9 : ℝ) : EReal) = (((t + 9 : ℤ) : ℝ) : EReal) := by push_cast; rfl
    rw [e]
    show FloatOps.fptosi (F := Ideal) (φ := .f32) 32 (((t + 9 : ℤ) : ℝ) : EReal) = _
    rw [fptosi_int _ (by omega) (by omega)]
    congr 1
    omega
  · subst h
    simp only [Int.cast_zero, EReal.coe_zero, lt_self_iff_false, ne_eq, not_true_eq_false, decide_false]
    rw [decide_eq_false n9]
    show FloatOps.fptosi (F := Ideal) (φ := .f32) 32 (0 : EReal) = _
    have := fptosi_int 0 (by omega) (by omega)
    simpa using this
  · have l : ¬ ((t : ℝ) : EReal) < 0 := by rw [not_lt]; exact_mod_cast h.le
    have ne : ((t : ℝ) : EReal) ≠ 0 := by exact_mod_cast h.ne'
    rw [decide_eq_false l, decide_eq_true ne, decide_eq_false n9]
    show FloatOps.fptosi (F := Ideal) (φ := .f32) 32 ((t : ℝ) : EReal) = _
    rw [fptosi_int _ (by omega) (by omega)]
    congr 1
    omega

/-- The reference's bin: the floor `f` of the phase modulo nine. -/
theorem word_eq (f : ℤ) (h0 : -9 ≤ f) (h1 : f ≤ 9) (R : EReal)
    (hR : R = Ideal.remf ((f : ℝ) : EReal) (FloatOps.sitofp (F := Ideal) .f32 9#32)) :
    FloatOps.fptosi (F := Ideal) (φ := .f32) 32
      (Scalar.select
        (IntOp.andi
          (IntOp.cmpi .ne (BitVec.ofBool (decide (R < 0))) (BitVec.ofBool (decide ((FloatOps.sitofp (F := Ideal) .f32 9#32 : EReal) < 0))))
          (BitVec.ofBool (decide (R ≠ 0))))
        (R + (FloatOps.sitofp (F := Ideal) .f32 9#32 : EReal)) R) = BitVec.ofInt 32 (f % 9) := by
  rw [nine, remf_nine f h0 h1] at hR
  rw [hR, nine, wrap_int _ (by split <;> omega) (by split <;> omega)]
  congr 1
  split <;> omega

/-- Two small bins' words agree exactly when the bins do. -/
theorem ofInt_eq_iff (b : ℤ) (h0 : 0 ≤ b) (h1 : b ≤ 8) (k : Fin 9) : BitVec.ofInt 32 b = BitVec.ofNat 32 k.val ↔ b = (k.val : ℤ) := by
  obtain ⟨n, rfl⟩ := Int.eq_ofNat_of_zero_le h0
  have hk := k.isLt
  rw [BitVec.ofInt_natCast]
  constructor
  · intro h
    have := congrArg BitVec.toNat h
    rw [BitVec.toNat_ofNat, BitVec.toNat_ofNat, Nat.mod_eq_of_lt (by omega), Nat.mod_eq_of_lt (by omega)] at this
    exact_mod_cast this
  · intro h
    rw [show n = k.val by exact_mod_cast h]

end Cert.Proof.Wrap

end
-- ==== Proof.RefOut.lean ====
/- The reference's result read at an index. -/
module

public import proofs.«01_k».proof.Proof.RefGrad
public import proofs.«01_k».proof.Proof.RefWin
public import proofs.«01_k».proof.Proof.Angle
public import proofs.«01_k».proof.Proof.Wrap

@[expose] public section

set_option maxRecDepth 16384

noncomputable section

namespace Cert.Proof.RefOut

open Cert.ReferenceIdeal Cert.ReferenceIdeal.Gen Cert.ReferenceIdeal.Read Idealize.ShloMosaic

/-- The reference's phase, of real derivatives. -/
theorem phase_eq (gx gy : ℝ) :
    Ideal.div (Ideal.atan2 (gx : EReal) (gy : EReal)) (Ideal.acos (Ideal.ofBits .f32 0xBF800000#32)) * Ideal.ofBits .f32 0x41100000#32
      = ((Angle.ang gx gy * (1 / Real.pi) * 9 : ℝ) : EReal) := by
  have e : Ideal.acos (((-1 : ℝ)) : EReal) = ((Real.pi : ℝ) : EReal) := by
    rw [Ideal.acos_coe, if_pos (by norm_num), Real.arccos_neg_one]
  rw [bits_neg_one, bits_nine, e, Angle.atan2_coe, Ideal.div_coe Real.pi_ne_zero, ← EReal.coe_mul, ← EReal.coe_mul]

/-- The floor of the phase is the bin up to a turn. -/
theorem floor_mod (gx gy : ℝ) : -9 ≤ ⌊Angle.ang gx gy * (1 / Real.pi) * 9⌋ ∧ ⌊Angle.ang gx gy * (1 / Real.pi) * 9⌋ ≤ 9
    ∧ ⌊Angle.ang gx gy * (1 / Real.pi) * 9⌋ % 9 = Angle.bin gx gy := by
  have hb := Angle.bin_range gx gy
  rcases Angle.floor_ang gx gy with h | h | h
  · omega
  · omega
  · omega

/-- The reference's result, of an image of reals: the weighted norm in the pixel's bin, zero in the others. -/
theorem res_apply (r : S32x3x224x224.Idx → ℝ) (n : Fin 96) (k : Fin 9) (i j : Fin 224) :
    val_main_v121 (F := Ideal) (fun y => (r y : EReal)) (ix4 n k i j)
      = if Angle.bin (gradX (fun a d => r (ix4 ⟨n.val / 3, by omega⟩ ⟨n.val % 3, by omega⟩ (rho a) (rho d))) i j)
            (gradY (fun a d => r (ix4 ⟨n.val / 3, by omega⟩ ⟨n.val % 3, by omega⟩ (rho a) (rho d))) i j) = (k.val : ℤ)
        then ((√(gradX (fun a d => r (ix4 ⟨n.val / 3, by omega⟩ ⟨n.val % 3, by omega⟩ (rho a) (rho d))) i j
                  * gradX (fun a d => r (ix4 ⟨n.val / 3, by omega⟩ ⟨n.val % 3, by omega⟩ (rho a) (rho d))) i j
                + gradY (fun a d => r (ix4 ⟨n.val / 3, by omega⟩ ⟨n.val % 3, by omega⟩ (rho a) (rho d))) i j
                  * gradY (fun a d => r (ix4 ⟨n.val / 3, by omega⟩ ⟨n.val % 3, by omega⟩ (rho a) (rho d))) i j) : ℝ) : EReal)
              * ((Win.win (i.val % 16) (j.val % 16) : ℝ) : EReal)
        else 0 := by
  pointwise [val_main_v121, val_main_v120, val_main_v119, val_main_v118, val_main_v117, val_main_v116, val_main_v115, val_main_v114, val_main_v113, val_main_v112, val_main_v111, val_main_v110, val_main_v109, val_main_call2_v2, val_main_call2_v1, val_main_call2_v0, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_call1_cst_0, val_main_call1_cst_1, val_main_c_26, val_main_cst_27, val_main_v108, val_main_v107, val_main_v106, val_main_v105, val_main_v104, val_main_v84, val_main_v83, val_main_v82, val_main_v81, val_main_v80, val_main_v79, val_main_v78, val_main_v77, val_main_v76, val_main_v75, val_main_cst_19, val_main_cst_20, RefGrad.gx_apply, RefGrad.gy_apply, RefWin.win_apply]
  generalize gradX (fun a d => r (ix4 ⟨n.val / 3, _⟩ ⟨n.val % 3, _⟩ (rho a) (rho d))) i j = gx
  generalize gradY (fun a d => r (ix4 ⟨n.val / 3, _⟩ ⟨n.val % 3, _⟩ (rho a) (rho d))) i j = gy
  simp only [phase_eq, Ideal.liftRound_coe]
  obtain ⟨h0, h1, h2⟩ := floor_mod gx gy
  have hb := Angle.bin_range gx gy
  rw [Wrap.word_eq _ h0 h1 _ rfl, h2, ← EReal.coe_mul, ← EReal.coe_mul, ← EReal.coe_add, Ideal.sqrt_coe,
    if_neg (not_lt.mpr (add_nonneg (mul_self_nonneg _) (mul_self_nonneg _)))]
  have hk := Wrap.ofInt_eq_iff (Angle.bin gx gy) hb.1 hb.2 k
  by_cases e : Angle.bin gx gy = (k.val : ℤ)
  · rw [if_pos e, hk.mpr e]
    have : IntOp.cmpi .eq (BitVec.ofNat 32 k.val) (BitVec.ofNat 32 k.val) = 1#1 := by simp [IntOp.cmpi]
    rw [this]
    rfl
  · rw [if_neg e]
    have : IntOp.cmpi .eq (BitVec.ofInt 32 (Angle.bin gx gy)) (BitVec.ofNat 32 k.val) = 0#1 := by
      show BitVec.ofBool (_ == _) = 0#1
      rw [beq_eq_false_iff_ne.mpr (mt hk.mp e)]
      rfl
    rw [this]
    exact Ideal.ofBits_zero_f32

end Cert.Proof.RefOut

end
-- ==== Proof.Cot.lean ====
/- The kernel's eight comparison constants lie within 2⁻²² of the cotangents of the multiples of π/9: the cosines are
   bracketed as roots of the triple-angle cubics, the cotangents through sine and cosine. -/
module

public import Idealize.ShloMosaic.PureOps.Ideal

@[expose] public section

noncomputable section

namespace Cert.Proof.Cot

open Real

/-- A bracket of the cosine brackets the cotangent. -/
theorem near {c s q e lo hi : ℝ} (hs : 0 < s) (hcs : c ^ 2 + s ^ 2 = 1) (h0 : 0 ≤ lo) (hl : lo ≤ c) (hh : c ≤ hi)
    (he : 0 ≤ e) (hq : e ≤ q) (h1 : (q - e) ^ 2 * (1 - lo ^ 2) ≤ lo ^ 2) (h2 : hi ^ 2 ≤ (q + e) ^ 2 * (1 - hi ^ 2)) :
    |c / s - q| ≤ e := by
  have c0 : 0 ≤ c := h0.trans hl
  have hl2 : lo ^ 2 ≤ c ^ 2 := pow_le_pow_left₀ h0 hl 2
  have hh2 : c ^ 2 ≤ hi ^ 2 := pow_le_pow_left₀ c0 hh 2
  have s2 : s ^ 2 = 1 - c ^ 2 := by linarith
  rw [abs_le]
  constructor
  · have : q - e ≤ c / s := by
      rw [le_div_iff₀ hs]
      refine le_of_sq_le_sq ?_ c0
      rw [mul_pow, s2]
      nlinarith [sq_nonneg (q - e)]
    linarith
  · have : c / s ≤ q + e := by
      rw [div_le_iff₀ hs]
      refine le_of_sq_le_sq ?_ (mul_nonneg (by linarith) hs.le)
      rw [mul_pow, s2]
      nlinarith [sq_nonneg (q + e)]
    linarith

/-- The kernel's constants, as the reals that their words denote. -/
def cst (m : ℕ) : ℝ :=
  match m with
  | 1 => 2880939 / 1048576
  | 2 => 4998577 / 4194304
  | 3 => 4843165 / 8388608
  | 4 => 11833103 / 67108864
  | 5 => -(11833103 / 67108864)
  | 6 => -(4843165 / 8388608)
  | 7 => -(4998577 / 4194304)
  | _ => -(2880939 / 1048576)

/-- The triple-angle cubic at a cosine. -/
theorem cubic (t : ℝ) : 4 * cos t ^ 3 - 3 * cos t = cos (3 * t) := (cos_three_mul t).symm

/-- A third of π has cosine one half. -/
theorem cos_third : cos (π * 3 / 9) = 1 / 2 := by
  rw [show π * 3 / 9 = π / 3 by ring, cos_pi_div_three]

/-- The cosine of π/9. -/
theorem cos_one : 0.9396926207 ≤ cos (π * 1 / 9) ∧ cos (π * 1 / 9) ≤ 0.9396926208 := by
  have hp := pi_pos
  have h := cubic (π * 1 / 9)
  rw [show 3 * (π * 1 / 9) = π / 3 by ring, cos_pi_div_three] at h
  have hg : 1 / 2 < cos (π * 1 / 9) := by
    rw [← cos_third]; exact cos_lt_cos_of_nonneg_of_le_pi (by positivity) (by linarith) (by linarith)
  generalize cos (π * 1 / 9) = c at *
  constructor
  · by_contra hc; rw [not_le] at hc
    nlinarith [mul_pos (sub_pos.mpr hg) (sub_pos.mpr hc), mul_nonneg (mul_pos (sub_pos.mpr hg) (sub_pos.mpr hc)).le (sub_pos.mpr hg).le]
  · by_contra hc; rw [not_le] at hc
    nlinarith [mul_pos (sub_pos.mpr hg) (sub_pos.mpr hc), mul_nonneg (mul_pos (sub_pos.mpr hg) (sub_pos.mpr hc)).le (sub_pos.mpr hg).le]

/-- The cosine of 2π/9. -/
theorem cos_two : 0.7660444431 ≤ cos (π * 2 / 9) ∧ cos (π * 2 / 9) ≤ 0.7660444432 := by
  have hp := pi_pos
  have h := cubic (π * 2 / 9)
  rw [show 3 * (π * 2 / 9) = π - π / 3 by ring, cos_pi_sub, cos_pi_div_three] at h
  have hg : 1 / 2 < cos (π * 2 / 9) := by
    rw [← cos_third]; exact cos_lt_cos_of_nonneg_of_le_pi (by positivity) (by linarith) (by linarith)
  generalize cos (π * 2 / 9) = c at *
  constructor
  · by_contra hc; rw [not_le] at hc
    nlinarith [mul_pos (sub_pos.mpr hg) (sub_pos.mpr hc), mul_nonneg (mul_pos (sub_pos.mpr hg) (sub_pos.mpr hc)).le (sub_pos.mpr hg).le]
  · by_contra hc; rw [not_le] at hc
    nlinarith [mul_pos (sub_pos.mpr hg) (sub_pos.mpr hc), mul_nonneg (mul_pos (sub_pos.mpr hg) (sub_pos.mpr hc)).le (sub_pos.mpr hg).le]

/-- The cosine of 4π/9. -/
theorem cos_four : 0.1736481776 ≤ cos (π * 4 / 9) ∧ cos (π * 4 / 9) ≤ 0.1736481777 := by
  have hp := pi_pos
  have h := cubic (π * 4 / 9)
  rw [show 3 * (π * 4 / 9) = π / 3 + π by ring, cos_add_pi, cos_pi_div_three] at h
  have hg : cos (π * 4 / 9) < 1 / 2 := by
    rw [← cos_third]; exact cos_lt_cos_of_nonneg_of_le_pi (by positivity) (by linarith) (by linarith)
  have h0 : 0 < cos (π * 4 / 9) := cos_pos_of_mem_Ioo ⟨by linarith, by linarith⟩
  generalize cos (π * 4 / 9) = c at *
  constructor
  · by_contra hc; rw [not_le] at hc
    nlinarith [mul_pos (sub_pos.mpr hg) (sub_pos.mpr hc), mul_pos h0 (sub_pos.mpr hc), mul_pos (mul_pos h0 h0) (sub_pos.mpr hc), mul_pos (mul_pos h0 (sub_pos.mpr hg)) (sub_pos.mpr hc)]
  · by_contra hc; rw [not_le] at hc
    nlinarith [mul_pos (sub_pos.mpr hg) (sub_pos.mpr hc), mul_pos h0 (sub_pos.mpr hc), mul_pos (mul_pos h0 h0) (sub_pos.mpr hc), mul_pos (mul_pos h0 (sub_pos.mpr hg)) (sub_pos.mpr hc)]

/-- Reflecting the angle negates the cotangent. -/
theorem reflect {m n : ℝ} (h : m + n = 9) : cos (π * n / 9) / sin (π * n / 9) = -(cos (π * m / 9) / sin (π * m / 9)) := by
  rw [show π * n / 9 = π - π * m / 9 by rw [show n = 9 - m by linarith]; ring, cos_pi_sub, sin_pi_sub, neg_div]

/-- The sine is positive at the angles in question. -/
theorem sin_pos' {m : ℝ} (h1 : 0 < m) (h9 : m < 9) : 0 < sin (π * m / 9) :=
  sin_pos_of_pos_of_lt_pi (by have := pi_pos; positivity) (by have := pi_pos; nlinarith)

/-- Each constant is within 2⁻²² of its cotangent. -/
theorem near_cst (m : ℕ) (h1 : 1 ≤ m) (h8 : m ≤ 8) :
    |cos (π * m / 9) / sin (π * m / 9) - cst m| ≤ 1 / 4194304 := by
  have n1 : |cos (π * 1 / 9) / sin (π * 1 / 9) - 2880939 / 1048576| ≤ 1 / 4194304 :=
    near (sin_pos' (by norm_num) (by norm_num)) (cos_sq_add_sin_sq _) (by norm_num) cos_one.1 cos_one.2
      (by norm_num) (by norm_num) (by norm_num) (by norm_num)
  have n2 : |cos (π * 2 / 9) / sin (π * 2 / 9) - 4998577 / 4194304| ≤ 1 / 4194304 :=
    near (sin_pos' (by norm_num) (by norm_num)) (cos_sq_add_sin_sq _) (by norm_num) cos_two.1 cos_two.2
      (by norm_num) (by norm_num) (by norm_num) (by norm_num)
  have n3 : |cos (π * 3 / 9) / sin (π * 3 / 9) - 4843165 / 8388608| ≤ 1 / 4194304 :=
    near (sin_pos' (by norm_num) (by norm_num)) (cos_sq_add_sin_sq _) (by norm_num) cos_third.ge cos_third.le
      (by norm_num) (by norm_num) (by norm_num) (by norm_num)
  have n4 : |cos (π * 4 / 9) / sin (π * 4 / 9) - 11833103 / 67108864| ≤ 1 / 4194304 :=
    near (sin_pos' (by norm_num) (by norm_num)) (cos_sq_add_sin_sq _) (by norm_num) cos_four.1 cos_four.2
      (by norm_num) (by norm_num) (by norm_num) (by norm_num)
  have flip : ∀ a q : ℝ, |-a - -q| = |a - q| := fun a q => by rw [neg_sub_neg, abs_sub_comm]
  interval_cases m
  · simpa [cst] using n1
  · simpa [cst] using n2
  · simpa [cst] using n3
  · simpa [cst] using n4
  · show |cos (π * ((5 : ℕ) : ℝ) / 9) / sin (π * ((5 : ℕ) : ℝ) / 9) - -_| ≤ _
    rw [reflect (m := 4) (by norm_num), flip]; exact n4
  · show |cos (π * ((6 : ℕ) : ℝ) / 9) / sin (π * ((6 : ℕ) : ℝ) / 9) - -_| ≤ _
    rw [reflect (m := 3) (by norm_num), flip]; exact n3
  · show |cos (π * ((7 : ℕ) : ℝ) / 9) / sin (π * ((7 : ℕ) : ℝ) / 9) - -_| ≤ _
    rw [reflect (m := 2) (by norm_num), flip]; exact n2
  · show |cos (π * ((8 : ℕ) : ℝ) / 9) / sin (π * ((8 : ℕ) : ℝ) / 9) - -_| ≤ _
    rw [reflect (m := 1) (by norm_num), flip]; exact n1

/-- Away from the cotangents by more than 2⁻²², comparing with the constant and with the cotangent come to the same. -/
theorem le_cst_iff {u : ℝ} (m : ℕ) (h1 : 1 ≤ m) (h8 : m ≤ 8)
    (hu : 1 / 4194304 < |u - cos (π * m / 9) / sin (π * m / 9)|) :
    u ≤ cst m ↔ u ≤ cos (π * m / 9) / sin (π * m / 9) := by
  have h := abs_le.mp (near_cst m h1 h8)
  rcases lt_abs.mp hu with h' | h' <;> constructor <;> intro h'' <;> linarith

end Cert.Proof.Cot

end
-- ==== Proof.KerHist.lean ====
/- The kernel's differences of thresholded norms are the one-hot of the bin. -/
module

public import proofs.«01_k».proof.Proof.KerBin
public import proofs.«01_k».proof.Proof.Angle
public import proofs.«01_k».proof.Proof.Cot

@[expose] public section

noncomputable section

namespace Cert.Proof.KerHist

open Idealize.ShloMosaic Real

/-- The kernel's literals are the thresholds' values. -/
theorem thr_eq (m : ℕ) (h1 : 1 ≤ m) (h8 : m ≤ 8) : KerBin.thr m = ((Cot.cst m : ℝ) : EReal) := by
  interval_cases m <;>
    simp [KerBin.thr, Cot.cst, Ideal.ofBits, Ideal.ieee, -EReal.coe_mul, -EReal.coe_neg] <;> norm_num

/-- Where a pixel lies off the boundaries: its row derivative vanishes, or its cotangent is away from every boundary. -/
def Off (gx gy : ℝ) : Prop := gx = 0 ∨ ∀ m : ℕ, 1 ≤ m → m ≤ 8 → 1 / 4194304 < |gy / gx - cos (π * m / 9) / sin (π * m / 9)|

/-- The norm below threshold `m` is the norm where the bin is at least `m`. -/
theorem below_eq (n gx gy : ℝ) (h : Off gx gy) (m : ℕ) (h1 : 1 ≤ m) (h8 : m ≤ 8) :
    KerBin.below (n : EReal) (if gx = 0 then ⊤ else ((gy / gx : ℝ) : EReal)) m
      = if (m : ℤ) ≤ Angle.bin gx gy then (n : EReal) else 0 := by
  rw [KerBin.below, thr_eq m h1 h8]
  by_cases h0 : gx = 0
  · rw [if_pos h0, if_neg (by simp), if_neg]
    rw [Angle.bin, if_pos h0]
    omega
  · rw [if_neg h0]
    have e := (Cot.le_cst_iff m h1 h8 ((h.resolve_left h0) m h1 h8)).trans (Angle.le_cot_iff h0 gy m h1 h8)
    by_cases c : (m : ℤ) ≤ Angle.bin gx gy
    · rw [if_pos c, if_pos (by exact_mod_cast e.mpr c)]
    · rw [if_neg c, if_neg (by exact_mod_cast mt e.mp c)]

/-- The kernel's entry of bin `k` is the norm where the pixel's bin is `k`, and zero elsewhere. -/
theorem bin_eq (n gx gy : ℝ) (h : Off gx gy) (k : Fin 9) :
    KerBin.bin (n : EReal) (if gx = 0 then ⊤ else ((gy / gx : ℝ) : EReal)) k.val
      = if Angle.bin gx gy = (k.val : ℤ) then (n : EReal) else 0 := by
  have hb := Angle.bin_range gx gy
  have hk := k.isLt
  have z : (n : EReal) - (n : EReal) = 0 := by rw [← EReal.coe_sub, sub_self, EReal.coe_zero]
  unfold KerBin.bin
  by_cases k0 : k.val = 0
  · rw [if_pos k0, below_eq n gx gy h 1 le_rfl (by omega), k0]
    by_cases c : ((1 : ℕ) : ℤ) ≤ Angle.bin gx gy
    · rw [if_pos c, if_neg (by omega), z]
    · rw [if_neg c, if_pos (by omega), sub_zero]
  by_cases k8 : k.val = 8
  · rw [if_neg k0, if_pos k8, below_eq n gx gy h 8 (by omega) le_rfl, k8]
    by_cases c : ((8 : ℕ) : ℤ) ≤ Angle.bin gx gy
    · rw [if_pos c, if_pos (by omega)]
    · rw [if_neg c, if_neg (by omega)]
  rw [if_neg k0, if_neg k8, below_eq n gx gy h k.val (by omega) (by omega), below_eq n gx gy h (k.val + 1) (by omega) (by omega)]
  by_cases c : (k.val : ℤ) ≤ Angle.bin gx gy
  · by_cases d : ((k.val + 1 : ℕ) : ℤ) ≤ Angle.bin gx gy
    · rw [if_pos c, if_pos d, if_neg (by omega), z]
    · rw [if_pos c, if_neg d, if_pos (by omega), sub_zero]
  · rw [if_neg c, if_neg (by omega), if_neg (by omega), sub_zero]

end Cert.Proof.KerHist

end
-- ==== Proof.Mask.lean ====
/- The claim's mask and precondition, read as statements about reals. -/
module

public import proofs.«01_k».proof.Defs
public import proofs.«01_k».proof.Proof.Gen.On_off_boundary
public import proofs.«01_k».proof.Proof.Gen.Pre_finite
public import proofs.«01_k».proof.Proof.RefGrad
public import proofs.«01_k».proof.Proof.KerHist

@[expose] public section

set_option maxRecDepth 16384

noncomputable section

namespace Cert.Proof.Mask

open Idealize.ShloMosaic

/-- A conjunction of one-bit words is set where both are. -/
theorem andi_iff (a b : BitVec 1) : IntOp.andi a b = 1#1 ↔ a = 1#1 ∧ b = 1#1 := by revert a b; decide

/-- A disjunction of one-bit words is set where one of them is. -/
theorem ori_iff (a b : BitVec 1) : IntOp.ori a b = 1#1 ↔ a = 1#1 ∨ b = 1#1 := by revert a b; decide

/-- The word of a decided statement is set where the statement holds. -/
theorem ofBool_iff (p : Prop) [Decidable p] : BitVec.ofBool (decide p) = 1#1 ↔ p := by
  by_cases h : p <;> simp [h]

/-- The magnitude of a real. -/
theorem absf_coe (a : ℝ) : (FloatOps.absf (F := Ideal) (φ := .f32) ((a : ℝ) : EReal) : EReal) = ((|a| : ℝ) : EReal) := by
  show max ((a : ℝ) : EReal) (-((a : ℝ) : EReal)) = _
  rw [← EReal.coe_neg, abs_eq_max_neg]
  exact (EReal.coe_strictMono.monotone.map_max).symm

/-- Where the precondition holds, every pixel is a real. -/
theorem finite_apply (x : FVec Ideal Cert.ReferenceIdeal.S32x3x224x224 .f32) (h : Cert.Pre_finite.fn (F := Ideal) x = fun _ => 1#1)
    (y : Cert.ReferenceIdeal.S32x3x224x224.Idx) : x y = ((EReal.toReal (x y) : ℝ) : EReal) := by
  have e := congrFun h y
  revert e
  pointwise [Cert.Pre_finite.fn]
  intro e
  rw [ofBool_iff] at e
  have t : Ideal.ofBits .f32 0x7F800000#32 = ⊤ := by simp [Ideal.ofBits, Ideal.ieee]
  have e' : max (x y) (-(x y)) < ⊤ := t ▸ e
  rw [max_lt_iff] at e'
  exact (EReal.coe_toReal e'.1.ne (fun b => by rw [b] at e'; exact absurd e'.2 (by simp))).symm

/-- The mask reads the derivatives that the reference computes. -/
theorem mask_parts (x : FVec Ideal Cert.ReferenceIdeal.S32x3x224x224 .f32) :
    Cert.On_off_boundary.fn (F := Ideal) x
      = Cert.On_off_boundary.fn_part4 (F := Ideal) (Cert.ReferenceIdeal.Read.val_main_v37 (F := Ideal) x)
          (Cert.ReferenceIdeal.Read.val_main_v74 (F := Ideal) x) := rfl

/-- The word of the mask's distance, 2^-22. -/
theorem bits_gap : Ideal.ofBits .f32 0x34800000#32 = ((1 / 4194304 : ℝ) : EReal) := by
  simp [Ideal.ofBits, Ideal.ieee, -EReal.coe_mul]; norm_num

/-- The arc cosine of minus one is π. -/
theorem acos_pi : Ideal.acos (Ideal.ofBits .f32 0xBF800000#32) = ((Real.pi : ℝ) : EReal) := by
  rw [bits_neg_one, Ideal.acos_coe, if_pos (by norm_num), Real.arccos_neg_one]

/-- One comparison of the mask, of reals: the cotangent's distance from boundary `m`, whose angle the mask has as the
    ninth of `T`. -/
theorem apart (a b : ℝ) (ha : a ≠ 0) (m : ℕ) (h1 : 1 ≤ m) (h8 : m ≤ 8) (T : EReal) (hT : T = ((Real.pi * m : ℝ) : EReal))
    (h : Ideal.ofBits .f32 0x34800000#32 <
      (FloatOps.absf (F := Ideal) (φ := .f32) (Ideal.div (b : EReal) (a : EReal)
        - Ideal.div (Ideal.cos (Ideal.div T (Ideal.ofBits .f32 0x41100000#32)))
            (Ideal.sin (Ideal.div T (Ideal.ofBits .f32 0x41100000#32)))) : EReal)) :
    1 / 4194304 < |b / a - Real.cos (Real.pi * m / 9) / Real.sin (Real.pi * m / 9)| := by
  have m1 : (1 : ℝ) ≤ m := by exact_mod_cast h1
  have m8 : (m : ℝ) ≤ 8 := by exact_mod_cast h8
  have hs : 0 < Real.sin (Real.pi * m / 9) :=
    Real.sin_pos_of_pos_of_lt_pi (by have := Real.pi_pos; positivity) (by have := Real.pi_pos; nlinarith)
  rw [hT, bits_gap, bits_nine, Ideal.div_coe ha, Ideal.div_coe (by norm_num : (9 : ℝ) ≠ 0), ← EReal.coe_mul, ← EReal.coe_mul, mul_one_div, mul_one_div,
    Ideal.cos_coe, Ideal.sin_coe, Ideal.div_coe hs.ne', ← EReal.coe_mul, mul_one_div, ← EReal.coe_sub, absf_coe] at h
  exact_mod_cast h

/-- Where the mask is set, the pixel is off the boundaries. -/
theorem mask_apply (gx gy : FVec Ideal Cert.ReferenceIdeal.S32x3x224x224 .f32) (n : Fin 96) (k : Fin 9) (i j : Fin 224) (a b : ℝ)
    (ha : gx (ix4 ⟨n.val / 3, by omega⟩ ⟨n.val % 3, by omega⟩ i j) = (a : EReal))
    (hb : gy (ix4 ⟨n.val / 3, by omega⟩ ⟨n.val % 3, by omega⟩ i j) = (b : EReal))
    (h : Cert.On_off_boundary.fn_part4 (F := Ideal) gx gy (ix4 n k i j) = 1#1) : KerHist.Off a b := by
  by_cases h0 : a = 0
  · exact .inl h0
  refine .inr ?_
  revert h
  pointwise [Cert.On_off_boundary.fn_part4, Cert.On_off_boundary.fn_part5, Cert.On_off_boundary.fn_part6, Cert.On_off_boundary.fn_part7, Cert.On_off_boundary.fn_part8, Cert.On_off_boundary.fn_part9]
  intro h
  simp only [andi_iff, ori_iff, ofBool_iff, true_and, acos_pi] at h
  rw [ha, hb] at h
  have h' := h.resolve_right (by exact_mod_cast h0)
  obtain ⟨⟨⟨⟨⟨⟨⟨b1, b2⟩, b3⟩, b4⟩, b5⟩, b6⟩, b7⟩, b8⟩ := h'
  intro m h1 h8
  have w2 : Ideal.ofBits .f32 0x40000000#32 = ((2 : ℝ) : EReal) := bits_two
  have w3 : Ideal.ofBits .f32 0x40400000#32 = ((3 : ℝ) : EReal) := by simp [Ideal.ofBits, Ideal.ieee, -EReal.coe_mul]; norm_num
  have w4 : Ideal.ofBits .f32 0x40800000#32 = ((4 : ℝ) : EReal) := by simp [Ideal.ofBits, Ideal.ieee, -EReal.coe_mul]; norm_num
  have w5 : Ideal.ofBits .f32 0x40A00000#32 = ((5 : ℝ) : EReal) := by simp [Ideal.ofBits, Ideal.ieee, -EReal.coe_mul]; norm_num
  have w6 : Ideal.ofBits .f32 0x40C00000#32 = ((6 : ℝ) : EReal) := by simp [Ideal.ofBits, Ideal.ieee, -EReal.coe_mul]; norm_num
  have w7 : Ideal.ofBits .f32 0x40E00000#32 = ((7 : ℝ) : EReal) := by simp [Ideal.ofBits, Ideal.ieee, -EReal.coe_mul]; norm_num
  have w8 : Ideal.ofBits .f32 0x41000000#32 = ((8 : ℝ) : EReal) := by simp [Ideal.ofBits, Ideal.ieee, -EReal.coe_mul]; norm_num
  interval_cases m
  · exact apart a b h0 1 h1 h8 _ (by norm_num) b1
  · exact apart a b h0 2 h1 h8 _ (by rw [w2, ← EReal.coe_mul]; norm_num) b2
  · exact apart a b h0 3 h1 h8 _ (by rw [w3, ← EReal.coe_mul]; norm_num) b3
  · exact apart a b h0 4 h1 h8 _ (by rw [w4, ← EReal.coe_mul]; norm_num) b4
  · exact apart a b h0 5 h1 h8 _ (by rw [w5, ← EReal.coe_mul]; norm_num) b5
  · exact apart a b h0 6 h1 h8 _ (by rw [w6, ← EReal.coe_mul]; norm_num) b6
  · exact apart a b h0 7 h1 h8 _ (by rw [w7, ← EReal.coe_mul]; norm_num) b7
  · exact apart a b h0 8 h1 h8 _ (by rw [w8, ← EReal.coe_mul]; norm_num) b8

end Cert.Proof.Mask

end
-- ==== Proof.Meet.lean ====
/- The kernel's result array and the reference's agree off the boundaries. -/
module

public import proofs.«01_k».proof.Proof.KerOut
public import proofs.«01_k».proof.Proof.KerPad
public import proofs.«01_k».proof.Proof.KerGrad
public import proofs.«01_k».proof.Proof.KerWin
public import proofs.«01_k».proof.Proof.RefOut
public import proofs.«01_k».proof.Proof.Mask
public import proofs.«01_k».proof.Proof.Gen.ReferenceIdeal.Run

@[expose] public section

set_option maxRecDepth 16384

noncomputable section

namespace Cert.Proof.Meet

open Idealize.ShloMosaic Idealize.ShloMosaic.TcCoe Idealize.SL.Sem
open Cert.KernelIdeal (nD τ sig main_arg0)

variable (m : (ℓ : Loc nD τ sig) → Buf (Elt Ideal) ℓ)

/-- The argument on device `c`. -/
def arg (c : Dev nD) : FVec Ideal Cert.ReferenceIdeal.S32x3x224x224 .f32 := m (c, Proc.devRef .tc main_arg0)

/-- The argument's pixels, as reals. -/
def pix (c : Dev nD) : Cert.ReferenceIdeal.S32x3x224x224.Idx → ℝ := fun y => EReal.toReal (arg m c y)

/-- Plane `n` of the padded image, as reals. -/
def pad (c : Dev nD) (n : Fin 96) (a d : Fin 226) : ℝ := pix m c (ix4 ⟨n.val / 3, by omega⟩ ⟨n.val % 3, by omega⟩ (rho a) (rho d))

/-- The kernel's result at a pixel off the boundaries: the weighted norm in the pixel's bin, zero in the others. -/
theorem hog_apply (c : Dev nD) (hx : arg m c = fun y => ((pix m c y : ℝ) : EReal)) (n : Fin 96) (k : Fin 9) (i j : Fin 224)
    (ho : KerHist.Off (gradX (pad m c n) i j) (gradY (pad m c n) i j)) :
    KerOut.hog m c (ix4 n k i j)
      = if Angle.bin (gradX (pad m c n) i j) (gradY (pad m c n) i j) = (k.val : ℤ)
        then ((√(gradX (pad m c n) i j * gradX (pad m c n) i j + gradY (pad m c n) i j * gradY (pad m c n) i j) : ℝ) : EReal)
              * ((Win.win (i.val % 16) (j.val % 16) : ℝ) : EReal)
        else 0 := by
  have h : ∀ a d, KerOut.plane m c n (ix3 0 a d) = ((pad m c n a d : ℝ) : EReal) := fun a d =>
    (KerPad.V2_apply m c n a d).trans (congrFun hx _)
  show KerBin.bin (Cert.KernelIdeal.Gen.k0_pay12 (F := Ideal) (KerOut.plane m c n) (KerOut.table m c) (ix2 i j))
    (Cert.KernelIdeal.Gen.k0_pay13 (F := Ideal) (KerOut.plane m c n) (ix2 i j)) k.val = _
  have w : KerOut.table m c (ix2 i j) = ((Win.win (i.val % 16) (j.val % 16) : ℝ) : EReal) := KerWin.win_apply m c i j
  rw [KerGrad.norm_apply _ _ _ h, KerGrad.cot_apply _ _ h, w, ← EReal.coe_mul]
  exact KerHist.bin_eq _ _ _ ho k

/-- At every index that the mask selects, the kernel's result is the reference's. -/
theorem meet (c : Dev nD) (hf : Cert.Pre_finite.fn (F := Ideal) (arg m c) = fun _ => 1#1) (y : Cert.ReferenceIdeal.S96x9x224x224.Idx)
    (hy : Cert.On_off_boundary.fn (F := Ideal) (arg m c) y = 1#1) :
    Cert.ReferenceIdeal.Read.val_main_v121 (F := Ideal) (arg m c) y = KerOut.hog m c y := by
  have hx : arg m c = fun y => ((pix m c y : ℝ) : EReal) := funext fun y => Mask.finite_apply _ hf y
  obtain ⟨n, k, i, j, rfl⟩ : ∃ (n : Fin 96) (k : Fin 9) (i j : Fin 224), y = ix4 n k i j :=
    ⟨y 0, y 1, y 2, y 3, by funext a; match a with | ⟨0, _⟩ => rfl | ⟨1, _⟩ => rfl | ⟨2, _⟩ => rfl | ⟨3, _⟩ => rfl⟩
  rw [Mask.mask_parts, hx] at hy
  have ho := Mask.mask_apply _ _ n k i j _ _ (RefGrad.gx_apply (pix m c) _ _ i j) (RefGrad.gy_apply (pix m c) _ _ i j) hy
  rw [hog_apply m c hx n k i j ho, hx]
  exact RefOut.res_apply (pix m c) n k i j

/-- Both programs, run on one argument of finite pixels, agree off the boundaries. -/
theorem algebraic : Cert.algebraic_KernelIdeal_ReferenceIdeal_on_off_boundary_pre_finite := by
  intro m g m' g' hpre hag
  refine ⟨fun c => (Cert.KernelIdeal.Gen.dats m 0 c).arrAt 2 Cert.KernelIdeal.cfg0.N,
    (θ_run _ _ _).mono (fun r h c => ⟨fun i _ => congrFun (h c).1 i, (h c).2⟩) (Cert.KernelIdeal.Value.run_blocks m g),
    (θ_run _ _ _).mono (fun r h c => ⟨fun i hi => ?_, (h c).2⟩) (Cert.ReferenceIdeal.Value.run m' g')⟩
  refine (congrFun ((h c).1.trans (Cert.ReferenceIdeal.Read.val_main_v121_eq _)) i).trans ?_
  have e : StableHlo.launchContents m' c (Proc.devRef .tc Cert.ReferenceIdeal.main_arg0) = arg m c := hag c
  rw [e]
  exact (meet m c (hpre c) i hi).trans (congrFun (KerOut.final m c).symm i)

end Cert.Proof.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_off_boundary
public import proofs.«01_k».proof.Proof.Gen.KernelIdeal.Value
public import proofs.«01_k».proof.Proof.Gen.ReferenceIdeal.Run
public import proofs.«01_k».proof.Proof.Gen.ReferenceIdeal.Read
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The reference terminates without fault from every memory, its argument unchanged and every counter at zero: it is host
    operations alone, and it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems (by decide) r.2⟩)
    (Cert.ReferenceIdeal.Value.run (F := Ideal) m g)

/-- The certificate: the three frames, also at finite pixels, the idealization, and the equation of kernel and reference. -/
theorem claim : Cert.Claim :=
  ⟨Cert.Kernel.Gen.facts, Cert.KernelIdeal.Gen.facts, Cert.ReferenceIdeal.Gen.facts, Cert.Pre_finite.Gen.facts,
    Cert.On_off_boundary.Gen.facts, fun m g _ => Cert.Kernel.Gen.frame m g, fun m g _ => Cert.KernelIdeal.Gen.frame m g,
    fun m g _ => Cert.KernelIdeal.Gen.frame m g, fun m g _ => frame_reference m g, fun m g _ => frame_reference m g, trivial,
    Meet.algebraic⟩

end Cert.Proof

end
